-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ranges [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_ranges [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ranges m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_ranges [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ranges m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v333) = v1 c
          ∧ r.2.mem ((c.tc : Thread Cert.ReferenceIdeal.nD Cert.ReferenceIdeal.τ).loc Cert.ReferenceIdeal.main_v270) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_ranges : Cert.Pre_ranges.Facts),
    quiescent_Kernel (hKernel := hKernel)
    ∧ quiescent_KernelIdeal (hKernelIdeal := hKernelIdeal)
    ∧ quiescent_KernelIdeal_pre_ranges (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ preserves_Kernel_KernelIdeal
    ∧ algebraic_KernelIdeal_ReferenceIdeal_pre_ranges (hKernelIdeal := hKernelIdeal) (hReferenceIdeal := hReferenceIdeal) (hPre_ranges := hPre_ranges)
-- ==== Pre_ranges.lean ====
abbrev S50000x3 : Shape := ⟨2, ![50000, 3]⟩
abbrev S50000x480 : Shape := ⟨2, ![50000, 480]⟩
abbrev S512x480 : Shape := ⟨2, ![512, 480]⟩
abbrev S512 : Shape := ⟨1, ![512]⟩
abbrev S512x3 : Shape := ⟨2, ![512, 3]⟩
abbrev S50000 : Shape := ⟨1, ![50000]⟩
abbrev S64x128 : Shape := ⟨2, ![64, 128]⟩
abbrev S128 : Shape := ⟨1, ![128]⟩
abbrev S128x224 : Shape := ⟨2, ![128, 224]⟩
abbrev S64x64 : Shape := ⟨2, ![64, 64]⟩
abbrev S32x32 : Shape := ⟨2, ![32, 32]⟩
abbrev S224 : Shape := ⟨1, ![224]⟩
abbrev S128x1 : Shape := ⟨2, ![128, 1]⟩
abbrev S1 : Shape := ⟨1, ![1]⟩
abbrev S128x16 : Shape := ⟨2, ![128, 16]⟩
abbrev S64x16 : Shape := ⟨2, ![64, 16]⟩
abbrev S32x16 : Shape := ⟨2, ![32, 16]⟩
abbrev S16 : Shape := ⟨1, ![16]⟩
abbrev S128x128 : Shape := ⟨2, ![128, 128]⟩
abbrev S_ : Shape := ⟨0, ![]⟩

class Facts : Prop where
  slices_S128x224_S128x128_0_0 : S128x224.Slices ![0, 0] S128x128
  bcast_S_S128x128 : S_.BroadcastsInDim S128x128 (![] : Fin 0 → Fin S128x128.rank)
  slices_S224_S128_0 : S224.Slices ![0] S128
  bcast_S_S128 : S_.BroadcastsInDim S128 (![] : Fin 0 → Fin S128.rank)
  bcast_S_S128x1 : S_.BroadcastsInDim S128x1 (![] : Fin 0 → Fin S128x1.rank)
  bcast_S_S1 : S_.BroadcastsInDim S1 (![] : Fin 0 → Fin S1.rank)

variable [Facts]

def fn {F : FTy → Type} [FloatOps F] (main_arg0 : FVec F S50000x3 .f32) (main_arg1 : FVec F S50000x480 .f32) (main_arg2 : FVec F S512x480 .f32) (main_arg3 : IVec S512 32) (main_arg4 : FVec F S512x3 .f32) (main_arg5 : IVec S50000 32) (main_arg6 : FVec F S512 .f32) (main_arg7 : FVec F S64x128 .f32) (main_arg8 : FVec F S128 .f32) (main_arg9 : FVec F S128x224 .f32) (main_arg10 : FVec F S64x64 .f32) (main_arg11 : FVec F S32x32 .f32) (main_arg12 : FVec F S224 .f32) (main_arg13 : FVec F S128x1 .f32) (main_arg14 : FVec F S1 .f32) (main_arg15 : FVec F S128x224 .f32) (main_arg16 : FVec F S64x64 .f32) (main_arg17 : FVec F S32x32 .f32) (main_arg18 : FVec F S224 .f32) (main_arg19 : FVec F S128x16 .f32) (main_arg20 : FVec F S64x16 .f32) (main_arg21 : FVec F S32x16 .f32) (main_arg22 : FVec F S16 .f32) : IVec S128x128 1 × IVec S128 1 × IVec S128x1 1 × IVec S1 1 :=
  let main_v0 : FVec F S128x128 .f32 := (extractStridedSlice S128x128 ![0, 0] · slices_S128x224_S128x128_0_0) main_arg9
  let main_v1 : FVec F S128x128 .f32 := Host.absf main_v0
  let main_cst : FVec F S_ .f32 := constant S_ .f32 0x7F800000#32
  let main_v2 : FVec F S128x128 .f32 := broadcastInDim S128x128 ![] bcast_S_S128x128 main_cst
  let main_v3 : IVec S128x128 1 := cmpf .olt main_v1 main_v2
  let main_v4 : FVec F S128 .f32 := (extractStridedSlice S128 ![0] · slices_S224_S128_0) main_arg12
  let main_v5 : FVec F S128 .f32 := Host.absf main_v4
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_v8 : FVec F S128x1 .f32 := Host.absf main_arg13
  let main_cst_1 : FVec F S_ .f32 := constant S_ .f32 0x7F800000#32
  let main_v9 : FVec F S128x1 .f32 := broadcastInDim S128x1 ![] bcast_S_S128x1 main_cst_1
  let main_v10 : IVec S128x1 1 := cmpf .olt main_v8 main_v9
  let main_v11 : FVec F S1 .f32 := Host.absf main_arg14
  let main_cst_2 : FVec F S_ .f32 := constant S_ .f32 0x7F800000#32
  let main_v12 : FVec F S1 .f32 := broadcastInDim S1 ![] bcast_S_S1 main_cst_2
  let main_v13 : IVec S1 1 := cmpf .olt main_v11 main_v12
  (main_v3, main_v7, main_v10, main_v13)
-- ==== Kernel.lean ====
abbrev S50000x3 : Shape := ⟨2, ![50000, 3]⟩
abbrev S50000x480 : Shape := ⟨2, ![50000, 480]⟩
abbrev S512x480 : Shape := ⟨2, ![512, 480]⟩
abbrev S512 : Shape := ⟨1, ![512]⟩
abbrev S512x3 : Shape := ⟨2, ![512, 3]⟩
abbrev S50000 : Shape := ⟨1, ![50000]⟩
abbrev S64x128 : Shape := ⟨2, ![64, 128]⟩
abbrev S128 : Shape := ⟨1, ![128]⟩
abbrev S128x224 : Shape := ⟨2, ![128, 224]⟩
abbrev S64x64 : Shape := ⟨2, ![64, 64]⟩
abbrev S32x32 : Shape := ⟨2, ![32, 32]⟩
abbrev S224 : Shape := ⟨1, ![224]⟩
abbrev S128x1 : Shape := ⟨2, ![128, 1]⟩
abbrev S1 : Shape := ⟨1, ![1]⟩
abbrev S128x16 : Shape := ⟨2, ![128, 16]⟩
abbrev S64x16 : Shape := ⟨2, ![64, 16]⟩
abbrev S32x16 : Shape := ⟨2, ![32, 16]⟩
abbrev S16 : Shape := ⟨1, ![16]⟩
abbrev S192x192 : Shape := ⟨2, ![192, 192]⟩
abbrev S160x160 : Shape := ⟨2, ![160, 160]⟩
abbrev S9x1024 : Shape := ⟨2, ![9, 1024]⟩
abbrev S50000x1 : Shape := ⟨2, ![50000, 1]⟩
abbrev S25x1x2000 : Shape := ⟨3, ![25, 1, 2000]⟩
abbrev S512x1 : Shape := ⟨2, ![512, 1]⟩
abbrev S_ : Shape := ⟨0, ![]⟩
abbrev S63 : Shape := ⟨1, ![63]⟩
abbrev S64 : Shape := ⟨1, ![64]⟩
abbrev S1x64 : Shape := ⟨2, ![1, 64]⟩
abbrev S512x128 : Shape := ⟨2, ![512, 128]⟩
abbrev S512x192 : Shape := ⟨2, ![512, 192]⟩
abbrev S512x64x3 : Shape := ⟨3, ![512, 64, 3]⟩
abbrev S512x3x64 : Shape := ⟨3, ![512, 3, 64]⟩
abbrev S512x160 : Shape := ⟨2, ![512, 160]⟩
abbrev S512x32x5 : Shape := ⟨3, ![512, 32, 5]⟩
abbrev S512x5x32 : Shape := ⟨3, ![512, 5, 32]⟩
abbrev S1x128 : Shape := ⟨2, ![1, 128]⟩
abbrev S1x224 : Shape := ⟨2, ![1, 224]⟩
abbrev S1x1 : Shape := ⟨2, ![1, 1]⟩
abbrev S2000x480 : Shape := ⟨2, ![2000, 480]⟩
abbrev S2000x3 : Shape := ⟨2, ![2000, 3]⟩
abbrev S2000x1 : Shape := ⟨2, ![2000, 1]⟩
abbrev S1x1x2000 : Shape := ⟨3, ![1, 1, 2000]⟩
abbrev S512x484 : Shape := ⟨2, ![512, 484]⟩
abbrev S512x64 : Shape := ⟨2, ![512, 64]⟩
abbrev S1x2000 : Shape := ⟨2, ![1, 2000]⟩
abbrev S1x512 : Shape := ⟨2, ![1, 512]⟩
abbrev S2000x512 : Shape := ⟨2, ![2000, 512]⟩
abbrev S512x2000 : Shape := ⟨2, ![512, 2000]⟩
abbrev S2000x128 : Shape := ⟨2, ![2000, 128]⟩
abbrev S2000x192 : Shape := ⟨2, ![2000, 192]⟩
abbrev S2000x160 : Shape := ⟨2, ![2000, 160]⟩
abbrev S2000 : Shape := ⟨1, ![2000]⟩
abbrev S2000x64 : Shape := ⟨2, ![2000, 64]⟩
abbrev S2000x32 : Shape := ⟨2, ![2000, 32]⟩
abbrev S2000x224 : Shape := ⟨2, ![2000, 224]⟩
abbrev S2000x96 : Shape := ⟨2, ![2000, 96]⟩
abbrev S2000x484 : Shape := ⟨2, ![2000, 484]⟩
abbrev S1x16 : Shape := ⟨2, ![1, 16]⟩
abbrev S512x1024 : Shape := ⟨2, ![512, 1024]⟩
abbrev S128x480 : Shape := ⟨2, ![128, 480]⟩
abbrev S128x3 : Shape := ⟨2, ![128, 3]⟩
abbrev S128x1024 : Shape := ⟨2, ![128, 1024]⟩
abbrev S128x128 : Shape := ⟨2, ![128, 128]⟩
abbrev S128x64 : Shape := ⟨2, ![128, 64]⟩
abbrev S128x32 : Shape := ⟨2, ![128, 32]⟩
abbrev S128x96 : Shape := ⟨2, ![128, 96]⟩
abbrev S128x9 : Shape := ⟨2, ![128, 9]⟩

abbrev nBuf : Space → Nat
  | .hbm => 72
  | .vmem => 51
  | .smem => 0
  | _ => 0

abbrev bufTy : (tb : Table) → Fin (tcTables nBuf tb) → BufTy
  | .hbm, ⟨0, _⟩ => ⟨S50000x3, .f32⟩
  | .hbm, ⟨1, _⟩ => ⟨S50000x480, .f32⟩
  | .hbm, ⟨2, _⟩ => ⟨S512x480, .f32⟩
  | .hbm, ⟨3, _⟩ => ⟨S512, .i32⟩
  | .hbm, ⟨4, _⟩ => ⟨S512x3, .f32⟩
  | .hbm, ⟨5, _⟩ => ⟨S50000, .i32⟩
  | .hbm, ⟨6, _⟩ => ⟨S512, .f32⟩
  | .hbm, ⟨7, _⟩ => ⟨S64x128, .f32⟩
  | .hbm, ⟨8, _⟩ => ⟨S128, .f32⟩
  | .hbm, ⟨9, _⟩ => ⟨S128x224, .f32⟩
  | .hbm, ⟨10, _⟩ => ⟨S64x64, .f32⟩
  | .hbm, ⟨11, _⟩ => ⟨S32x32, .f32⟩
  | .hbm, ⟨12, _⟩ => ⟨S224, .f32⟩
  | .hbm, ⟨13, _⟩ => ⟨S128x1, .f32⟩
  | .hbm, ⟨14, _⟩ => ⟨S1, .f32⟩
  | .hbm, ⟨15, _⟩ => ⟨S128x224, .f32⟩
  | .hbm, ⟨16, _⟩ => ⟨S64x64, .f32⟩
  | .hbm, ⟨17, _⟩ => ⟨S32x32, .f32⟩
  | .hbm, ⟨18, _⟩ => ⟨S224, .f32⟩
  | .hbm, ⟨19, _⟩ => ⟨S128x16, .f32⟩
  | .hbm, ⟨20, _⟩ => ⟨S64x16, .f32⟩
  | .hbm, ⟨21, _⟩ => ⟨S32x16, .f32⟩
  | .hbm, ⟨22, _⟩ => ⟨S16, .f32⟩
  | .hbm, ⟨23, _⟩ => ⟨S192x192, .f32⟩
  | .hbm, ⟨24, _⟩ => ⟨S160x160, .f32⟩
  | .hbm, ⟨25, _⟩ => ⟨S9x1024, .f32⟩
  | .hbm, ⟨26, _⟩ => ⟨S50000x1, .i32⟩
  | .hbm, ⟨27, _⟩ => ⟨S25x1x2000, .i32⟩
  | .hbm, ⟨28, _⟩ => ⟨S512x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S63, .f32⟩
  | .hbm, ⟨37, _⟩ => ⟨S_, .f32⟩
  | .hbm, ⟨38, _⟩ => ⟨S63, .f32⟩
  | .hbm, ⟨39, _⟩ => ⟨S63, .f32⟩
  | .hbm, ⟨40, _⟩ => ⟨S1, .f32⟩
  | .hbm, ⟨41, _⟩ => ⟨S_, .f32⟩
  | .hbm, ⟨42, _⟩ => ⟨S63, .f32⟩
  | .hbm, ⟨43, _⟩ => ⟨S63, .f32⟩
  | .hbm, ⟨44, _⟩ => ⟨S63, .f32⟩
  | .hbm, ⟨45, _⟩ => ⟨S63, .f32⟩
  | .hbm, ⟨46, _⟩ => ⟨S1, .f32⟩
  | .hbm, ⟨47, _⟩ => ⟨S63, .f32⟩
  | .hbm, ⟨48, _⟩ => ⟨S63, .f32⟩
  | .hbm, ⟨49, _⟩ => ⟨S63, .f32⟩
  | .hbm, ⟨50, _⟩ => ⟨S1, .f32⟩
  | .hbm, ⟨51, _⟩ => ⟨S64, .f32⟩
  | .hbm, ⟨52, _⟩ => ⟨S1x64, .f32⟩
  | .hbm, ⟨53, _⟩ => ⟨S512x128, .f32⟩
  | .hbm, ⟨54, _⟩ => ⟨S512x192, .f32⟩
  | .hbm, ⟨55, _⟩ => ⟨S512x64x3, .f32⟩
  | .hbm, ⟨56, _⟩ => ⟨S512x3x64, .f32⟩
  | .hbm, ⟨57, _⟩ => ⟨S512x192, .f32⟩
  | .hbm, ⟨58, _⟩ => ⟨S512x160, .f32⟩
  | .hbm, ⟨59, _⟩ => ⟨S512x32x5, .f32⟩
  | .hbm, ⟨60, _⟩ => ⟨S512x5x32, .f32⟩
  | .hbm, ⟨61, _⟩ => ⟨S512x160, .f32⟩
  | .hbm, ⟨62, _⟩ => ⟨S1x128, .f32⟩
  | .hbm, ⟨63, _⟩ => ⟨S1x224, .f32⟩
  | .hbm, ⟨64, _⟩ => ⟨S1x1, .f32⟩
  | .hbm, ⟨65, _⟩ => ⟨S512x480, .f32⟩
  | .hbm, ⟨66, _⟩ => ⟨S512x3, .f32⟩
  | .hbm, ⟨67, _⟩ => ⟨S1x224, .f32⟩
  | .hbm, ⟨68, _⟩ => ⟨S1x16, .f32⟩
  | .hbm, ⟨69, _⟩ => ⟨S512x1024, .f32⟩
  | .hbm, ⟨70, _⟩ => ⟨S512x1024, .f32⟩
  | .hbm, ⟨71, _⟩ => ⟨S512x1, .f32⟩
  | .local _ .vmem, ⟨0, _⟩ => ⟨S2000x480, .f32⟩
  | .local _ .vmem, ⟨1, _⟩ => ⟨S2000x480, .f32⟩
  | .local _ .vmem, ⟨2, _⟩ => ⟨S2000x3, .f32⟩
  | .local _ .vmem, ⟨3, _⟩ => ⟨S2000x3, .f32⟩
  | .local _ .vmem, ⟨4, _⟩ => ⟨S2000x1, .i32⟩
  | .local _ .vmem, ⟨5, _⟩ => ⟨S2000x1, .i32⟩
  | .local _ .vmem, ⟨6, _⟩ => ⟨S1x1x2000, .i32⟩
  | .local _ .vmem, ⟨7, _⟩ => ⟨S1x1x2000, .i32⟩
  | .local _ .vmem, ⟨8, _⟩ => ⟨S512x128, .f32⟩
  | .local _ .vmem, ⟨9, _⟩ => ⟨S512x192, .f32⟩
  | .local _ .vmem, ⟨10, _⟩ => ⟨S512x160, .f32⟩
  | .local _ .vmem, ⟨11, _⟩ => ⟨S512x1, .f32⟩
  | .local _ .vmem, ⟨12, _⟩ => ⟨S1x64, .f32⟩
  | .local _ .vmem, ⟨13, _⟩ => ⟨S192x192, .f32⟩
  | .local _ .vmem, ⟨14, _⟩ => ⟨S160x160, .f32⟩
  | .local _ .vmem, ⟨15, _⟩ => ⟨S64x128, .f32⟩
  | .local _ .vmem, ⟨16, _⟩ => ⟨S1x128, .f32⟩
  | .local _ .vmem, ⟨17, _⟩ => ⟨S128x224, .f32⟩
  | .local _ .vmem, ⟨18, _⟩ => ⟨S64x64, .f32⟩
  | .local _ .vmem, ⟨19, _⟩ => ⟨S32x32, .f32⟩
  | .local _ .vmem, ⟨20, _⟩ => ⟨S1x224, .f32⟩
  | .local _ .vmem, ⟨21, _⟩ => ⟨S128x1, .f32⟩
  | .local _ .vmem, ⟨22, _⟩ => ⟨S1x1, .f32⟩
  | .local _ .vmem, ⟨23, _⟩ => ⟨S512x480, .f32⟩
  | .local _ .vmem, ⟨24, _⟩ => ⟨S512x3, .f32⟩
  | .local _ .vmem, ⟨25, _⟩ => ⟨S512x128, .f32⟩
  | .local _ .vmem, ⟨26, _⟩ => ⟨S512x192, .f32⟩
  | .local _ .vmem, ⟨27, _⟩ => ⟨S512x160, .f32⟩
  | .local _ .vmem, ⟨28, _⟩ => ⟨S512x1, .f32⟩
  | .local _ .vmem, ⟨29, _⟩ => ⟨S512x484, .f32⟩
  | .local _ .vmem, ⟨30, _⟩ => ⟨S128x480, .f32⟩
  | .local _ .vmem, ⟨31, _⟩ => ⟨S128x480, .f32⟩
  | .local _ .vmem, ⟨32, _⟩ => ⟨S128x3, .f32⟩
  | .local _ .vmem, ⟨33, _⟩ => ⟨S128x3, .f32⟩
  | .local _ .vmem, ⟨34, _⟩ => ⟨S128x3, .f32⟩
  | .local _ .vmem, ⟨35, _⟩ => ⟨S128x3, .f32⟩
  | .local _ .vmem, ⟨36, _⟩ => ⟨S128x224, .f32⟩
  | .local _ .vmem, ⟨37, _⟩ => ⟨S64x64, .f32⟩
  | .local _ .vmem, ⟨38, _⟩ => ⟨S32x32, .f32⟩
  | .local _ .vmem, ⟨39, _⟩ => ⟨S1x224, .f32⟩
  | .local _ .vmem, ⟨40, _⟩ => ⟨S128x16, .f32⟩
  | .local _ .vmem, ⟨41, _⟩ => ⟨S64x16, .f32⟩
  | .local _ .vmem, ⟨42, _⟩ => ⟨S32x16, .f32⟩
  | .local _ .vmem, ⟨43, _⟩ => ⟨S1x16, .f32⟩
  | .local _ .vmem, ⟨44, _⟩ => ⟨S9x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | .local _ .vmem, ⟨48, _⟩ => ⟨S128x1024, .f32⟩
  | .local _ .vmem, ⟨49, _⟩ => ⟨S128x1, .f32⟩
  | .local _ .vmem, ⟨50, _⟩ => ⟨S128x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_cst_0 : Ref sig .tc := ⟨.hbm, 24, rfl⟩
abbrev main_cst_1 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst_2 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_cst : Ref sig .tc := ⟨.hbm, 34, rfl⟩
abbrev main_call0_v3 : Ref sig .tc := ⟨.hbm, 35, rfl⟩
abbrev main_call0_v4 : Ref sig .tc := ⟨.hbm, 36, rfl⟩
abbrev main_call0_cst_0 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_v15 : Ref sig .tc := ⟨.hbm, 49, rfl⟩
abbrev main_call0_v16 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17_0 : Ref sig .tc := ⟨.hbm, 65, rfl⟩
abbrev main_v17_1 : Ref sig .tc := ⟨.hbm, 66, rfl⟩
abbrev main_v18 : Ref sig .tc := ⟨.hbm, 67, rfl⟩
abbrev main_v19 : Ref sig .tc := ⟨.hbm, 68, rfl⟩
abbrev main_v20_0 : Ref sig .tc := ⟨.hbm, 69, rfl⟩
abbrev main_v20_1 : Ref sig .tc := ⟨.hbm, 70, rfl⟩
abbrev main_v20_2 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc1_stg0_0 : Ref sig .tc := ⟨.vmem, 30, rfl⟩
abbrev cc1_stg0_1 : Ref sig .tc := ⟨.vmem, 31, rfl⟩
abbrev cc1_stg1_0 : Ref sig .tc := ⟨.vmem, 32, rfl⟩
abbrev cc1_stg1_1 : Ref sig .tc := ⟨.vmem, 33, rfl⟩
abbrev cc1_stg2_0 : Ref sig .tc := ⟨.vmem, 34, rfl⟩
abbrev cc1_stg2_1 : Ref sig .tc := ⟨.vmem, 35, rfl⟩
abbrev cc1_stg3_0 : Ref sig .tc := ⟨.vmem, 36, rfl⟩
abbrev cc1_stg4_0 : Ref sig .tc := ⟨.vmem, 37, rfl⟩
abbrev cc1_stg5_0 : Ref sig .tc := ⟨.vmem, 38, rfl⟩
abbrev cc1_stg6_0 : Ref sig .tc := ⟨.vmem, 39, rfl⟩
abbrev cc1_stg7_0 : Ref sig .tc := ⟨.vmem, 40, rfl⟩
abbrev cc1_stg8_0 : Ref sig .tc := ⟨.vmem, 41, rfl⟩
abbrev cc1_stg9_0 : Ref sig .tc := ⟨.vmem, 42, rfl⟩
abbrev cc1_stg10_0 : Ref sig .tc := ⟨.vmem, 43, rfl⟩
abbrev cc1_stg11_0 : Ref sig .tc := ⟨.vmem, 44, rfl⟩
abbrev cc1_stg12_0 : Ref sig .tc := ⟨.vmem, 45, rfl⟩
abbrev cc1_stg12_1 : Ref sig .tc := ⟨.vmem, 46, rfl⟩
abbrev cc1_stg13_0 : Ref sig .tc := ⟨.vmem, 47, rfl⟩
abbrev cc1_stg13_1 : Ref sig .tc := ⟨.vmem, 48, rfl⟩
abbrev cc1_stg14_0 : Ref sig .tc := ⟨.vmem, 49, rfl⟩
abbrev cc1_stg14_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem4_0 : DmaSem sig := 32
abbrev cc1_sem5_0 : DmaSem sig := 33
abbrev cc1_sem6_0 : DmaSem sig := 34
abbrev cc1_sem7_0 : DmaSem sig := 35
abbrev cc1_sem8_0 : DmaSem sig := 36
abbrev cc1_sem9_0 : DmaSem sig := 37
abbrev cc1_sem10_0 : DmaSem sig := 38
abbrev cc1_sem11_0 : DmaSem sig := 39
abbrev cc1_sem12_0 : DmaSem sig := 40
abbrev cc1_sem12_1 : DmaSem sig := 41
abbrev cc1_sem13_0 : DmaSem sig := 42
abbrev cc1_sem13_1 : DmaSem sig := 43
abbrev cc1_sem14_0 : DmaSem sig := 44
abbrev cc1_sem14_1 : DmaSem sig := 45

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v212 : BitVec 1 := Scalar.cmpi .eq arg0 c24_i32
  let v213 : BitVec 32 := Scalar.extui v212
  let c0_i32_91 : BitVec 32 := 0#32
  let v214 : BitVec 1 := Scalar.cmpi .ne v213 c0_i32_91
  v214

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x160 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S160x160 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x224 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x224 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x480 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x3 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x480 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x224 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x224 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S9x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S128x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x1024 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S128x1 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S50000x3 : Shape := ⟨2, ![50000, 3]⟩
abbrev S50000x480 : Shape := ⟨2, ![50000, 480]⟩
abbrev S512x480 : Shape := ⟨2, ![512, 480]⟩
abbrev S512 : Shape := ⟨1, ![512]⟩
abbrev S512x3 : Shape := ⟨2, ![512, 3]⟩
abbrev S50000 : Shape := ⟨1, ![50000]⟩
abbrev S64x128 : Shape := ⟨2, ![64, 128]⟩
abbrev S128 : Shape := ⟨1, ![128]⟩
abbrev S128x224 : Shape := ⟨2, ![128, 224]⟩
abbrev S64x64 : Shape := ⟨2, ![64, 64]⟩
abbrev S32x32 : Shape := ⟨2, ![32, 32]⟩
abbrev S224 : Shape := ⟨1, ![224]⟩
abbrev S128x1 : Shape := ⟨2, ![128, 1]⟩
abbrev S1 : Shape := ⟨1, ![1]⟩
abbrev S128x16 : Shape := ⟨2, ![128, 16]⟩
abbrev S64x16 : Shape := ⟨2, ![64, 16]⟩
abbrev S32x16 : Shape := ⟨2, ![32, 16]⟩
abbrev S16 : Shape := ⟨1, ![16]⟩
abbrev S9x1024 : Shape := ⟨2, ![9, 1024]⟩
abbrev S1024x9 : Shape := ⟨2, ![1024, 9]⟩
abbrev S_ : Shape := ⟨0, ![]⟩
abbrev S63 : Shape := ⟨1, ![63]⟩
abbrev S64 : Shape := ⟨1, ![64]⟩
abbrev S512x1 : Shape := ⟨2, ![512, 1]⟩
abbrev S1x64 : Shape := ⟨2, ![1, 64]⟩
abbrev S512x64 : Shape := ⟨2, ![512, 64]⟩
abbrev S512x128 : Shape := ⟨2, ![512, 128]⟩
abbrev S1x128 : Shape := ⟨2, ![1, 128]⟩
abbrev S512x352 : Shape := ⟨2, ![512, 352]⟩
abbrev S50000x1 : Shape := ⟨2, ![50000, 1]⟩
abbrev S50000x128 : Shape := ⟨2, ![50000, 128]⟩
abbrev S50000x128x1 : Shape := ⟨3, ![50000, 128, 1]⟩
abbrev S50000x192 : Shape := ⟨2, ![50000, 192]⟩
abbrev S50000x64x3 : Shape := ⟨3, ![50000, 64, 3]⟩
abbrev S50000x160 : Shape := ⟨2, ![50000, 160]⟩
abbrev S50000x32x5 : Shape := ⟨3, ![50000, 32, 5]⟩
abbrev S50000x1x1 : Shape := ⟨3, ![50000, 1, 1]⟩
abbrev S50000x64 : Shape := ⟨2, ![50000, 64]⟩
abbrev S50000x32 : Shape := ⟨2, ![50000, 32]⟩
abbrev S224x50000x1 : Shape := ⟨3, ![224, 50000, 1]⟩
abbrev S50000x224x1 : Shape := ⟨3, ![50000, 224, 1]⟩
abbrev S1x224x1 : Shape := ⟨3, ![1, 224, 1]⟩
abbrev S64x50000x3 : Shape := ⟨3, ![64, 50000, 3]⟩
abbrev S32x50000x5 : Shape := ⟨3, ![32, 50000, 5]⟩
abbrev S50000x224 : Shape := ⟨2, ![50000, 224]⟩
abbrev S50000x576 : Shape := ⟨2, ![50000, 576]⟩
abbrev S50000x96 : Shape := ⟨2, ![50000, 96]⟩
abbrev S50000x64x1 : Shape := ⟨3, ![50000, 64, 1]⟩
abbrev S50000x32x1 : Shape := ⟨3, ![50000, 32, 1]⟩
abbrev S1x1 : Shape := ⟨2, ![1, 1]⟩
abbrev S1x512 : Shape := ⟨2, ![1, 512]⟩
abbrev S50000x512 : Shape := ⟨2, ![50000, 512]⟩
abbrev S512x128x1 : Shape := ⟨3, ![512, 128, 1]⟩
abbrev S512x192 : Shape := ⟨2, ![512, 192]⟩
abbrev S512x64x3 : Shape := ⟨3, ![512, 64, 3]⟩
abbrev S512x160 : Shape := ⟨2, ![512, 160]⟩
abbrev S512x32x5 : Shape := ⟨3, ![512, 32, 5]⟩
abbrev S224x512x1 : Shape := ⟨3, ![224, 512, 1]⟩
abbrev S512x224x1 : Shape := ⟨3, ![512, 224, 1]⟩
abbrev S64x512x3 : Shape := ⟨3, ![64, 512, 3]⟩
abbrev S32x512x5 : Shape := ⟨3, ![32, 512, 5]⟩
abbrev S512x224 : Shape := ⟨2, ![512, 224]⟩
abbrev S512x576 : Shape := ⟨2, ![512, 576]⟩
abbrev S512x96 : Shape := ⟨2, ![512, 96]⟩
abbrev S512x64x1 : Shape := ⟨3, ![512, 64, 1]⟩
abbrev S512x32 : Shape := ⟨2, ![512, 32]⟩
abbrev S512x32x1 : Shape := ⟨3, ![512, 32, 1]⟩
abbrev S16x512x1 : Shape := ⟨3, ![16, 512, 1]⟩
abbrev S512x16x1 : Shape := ⟨3, ![512, 16, 1]⟩
abbrev S1x16x1 : Shape := ⟨3, ![1, 16, 1]⟩
abbrev S16x512x3 : Shape := ⟨3, ![16, 512, 3]⟩
abbrev S512x16x3 : Shape := ⟨3, ![512, 16, 3]⟩
abbrev S16x512x5 : Shape := ⟨3, ![16, 512, 5]⟩
abbrev S512x16x5 : Shape := ⟨3, ![512, 16, 5]⟩
abbrev S512x16x9 : Shape := ⟨3, ![512, 16, 9]⟩
abbrev S512x16x1024 : Shape := ⟨3, ![512, 16, 1024]⟩
abbrev S512x1024 : Shape := ⟨2, ![512, 1024]⟩
abbrev S512x1x1024 : Shape := ⟨3, ![512, 1, 1024]⟩
abbrev S512x9 : Shape := ⟨2, ![512, 9]⟩

abbrev nBuf : Space → Nat
  | .hbm => 478
  | .vmem => 0
  | .smem => 0
  | _ => 0

abbrev hbmTy0_0 (i : Nat) : BufTy := match i % 128 with
  | 0 => ⟨S50000x3, .f32⟩
  | 1 => ⟨S50000x480, .f32⟩
  | 2 => ⟨S512x480, .f32⟩
  | 3 => ⟨S512, .i32⟩
  | 4 => ⟨S512x3, .f32⟩
  | 5 => ⟨S50000, .i32⟩
  | 6 => ⟨S512, .f32⟩
  | 7 => ⟨S64x128, .f32⟩
  | 8 => ⟨S128, .f32⟩
  | 9 => ⟨S128x224, .f32⟩
  | 10 => ⟨S64x64, .f32⟩
  | 11 => ⟨S32x32, .f32⟩
  | 12 => ⟨S224, .f32⟩
  | 13 => ⟨S128x1, .f32⟩
  | 14 => ⟨S1, .f32⟩
  | 15 => ⟨S128x224, .f32⟩
  | 16 => ⟨S64x64, .f32⟩
  | 17 => ⟨S32x32, .f32⟩
  | 18 => ⟨S224, .f32⟩
  | 19 => ⟨S128x16, .f32⟩
  | 20 => ⟨S64x16, .f32⟩
  | 21 => ⟨S32x16, .f32⟩
  | 22 => ⟨S16, .f32⟩
  | 23 => ⟨S9x1024, .f32⟩
  | 24 => ⟨S1024x9, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S63, .f32⟩
  | 33 => ⟨S_, .f32⟩
  | 34 => ⟨S63, .f32⟩
  | 35 => ⟨S63, .f32⟩
  | 36 => ⟨S1, .f32⟩
  | 37 => ⟨S_, .f32⟩
  | 38 => ⟨S63, .f32⟩
  | 39 => ⟨S63, .f32⟩
  | 40 => ⟨S63, .f32⟩
  | 41 => ⟨S63, .f32⟩
  | 42 => ⟨S1, .f32⟩
  | 43 => ⟨S63, .f32⟩
  | 44 => ⟨S63, .f32⟩
  | 45 => ⟨S63, .f32⟩
  | 46 => ⟨S1, .f32⟩
  | 47 => ⟨S64, .f32⟩
  | 48 => ⟨S512x1, .f32⟩
  | 49 => ⟨S1x64, .f32⟩
  | 50 => ⟨S512x64, .f32⟩
  | 51 => ⟨S512x64, .f32⟩
  | 52 => ⟨S512x64, .f32⟩
  | 53 => ⟨S_, .f32⟩
  | 54 => ⟨S512x64, .f32⟩
  | 55 => ⟨S512x64, .f32⟩
  | 56 => ⟨S512x64, .f32⟩
  | 57 => ⟨S512x64, .f32⟩
  | 58 => ⟨S512x128, .f32⟩
  | 59 => ⟨S_, .f32⟩
  | 60 => ⟨S512x128, .f32⟩
  | 61 => ⟨S512x128, .f32⟩
  | 62 => ⟨S1x128, .f32⟩
  | 63 => ⟨S512x128, .f32⟩
  | 64 => ⟨S512x128, .f32⟩
  | 65 => ⟨S_, .f32⟩
  | 66 => ⟨S512x352, .f32⟩
  | 67 => ⟨S512x480, .f32⟩
  | 68 => ⟨S512x480, .f32⟩
  | 69 => ⟨S512x480, .f32⟩
  | 70 => ⟨S_, .f32⟩
  | 71 => ⟨S512x480, .f32⟩
  | 72 => ⟨S512x480, .f32⟩
  | 73 => ⟨S_, .f32⟩
  | 74 => ⟨S512x480, .f32⟩
  | 75 => ⟨S512x480, .f32⟩
  | 76 => ⟨S512x480, .f32⟩
  | 77 => ⟨S512x480, .f32⟩
  | 78 => ⟨S_, .i32⟩
  | 79 => ⟨S50000, .i32⟩
  | 80 => ⟨S50000, .i1⟩
  | 81 => ⟨S_, .i32⟩
  | 82 => ⟨S50000, .i32⟩
  | 83 => ⟨S50000, .i32⟩
  | 84 => ⟨S50000, .i32⟩
  | 85 => ⟨S50000x1, .i32⟩
  | 86 => ⟨S50000x480, .f32⟩
  | 87 => ⟨S50000x480, .f32⟩
  | 88 => ⟨S50000x128, .f32⟩
  | 89 => ⟨S50000x128x1, .f32⟩
  | 90 => ⟨S50000x192, .f32⟩
  | 91 => ⟨S50000x64x3, .f32⟩
  | 92 => ⟨S50000x160, .f32⟩
  | 93 => ⟨S50000x32x5, .f32⟩
  | 94 => ⟨S_, .f32⟩
  | 95 => ⟨S50000x1, .f32⟩
  | 96 => ⟨S50000x1x1, .f32⟩
  | 97 => ⟨S_, .f32⟩
  | 98 => ⟨S50000x1x1, .f32⟩
  | 99 => ⟨S50000x1x1, .f32⟩
  | 100 => ⟨S50000x128x1, .f32⟩
  | 101 => ⟨S50000x128x1, .f32⟩
  | 102 => ⟨S50000x128x1, .f32⟩
  | 103 => ⟨S_, .f32⟩
  | 104 => ⟨S50000x128, .f32⟩
  | 105 => ⟨S_, .f32⟩
  | 106 => ⟨S50000, .f32⟩
  | 107 => ⟨S_, .f32⟩
  | 108 => ⟨S50000, .f32⟩
  | 109 => ⟨S50000, .f32⟩
  | 110 => ⟨S_, .f32⟩
  | 111 => ⟨S50000, .f32⟩
  | 112 => ⟨S50000, .f32⟩
  | 113 => ⟨S50000, .f32⟩
  | 114 => ⟨S50000x1x1, .f32⟩
  | 115 => ⟨S50000x128x1, .f32⟩
  | 116 => ⟨S50000x128x1, .f32⟩
  | 117 => ⟨S50000x64x3, .f32⟩
  | 118 => ⟨S_, .f32⟩
  | 119 => ⟨S50000x64, .f32⟩
  | 120 => ⟨S_, .f32⟩
  | 121 => ⟨S50000, .f32⟩
  | 122 => ⟨S_, .f32⟩
  | 123 => ⟨S50000, .f32⟩
  | 124 => ⟨S50000, .f32⟩
  | 125 => ⟨S_, .f32⟩
  | 126 => ⟨S50000, .f32⟩
  | 127 => ⟨S50000, .f32⟩
  | _ => ⟨S50000x3, .f32⟩

abbrev hbmTy0_1 (i : Nat) : BufTy := match i % 128 with
  | 0 => ⟨S50000, .f32⟩
  | 1 => ⟨S50000x1x1, .f32⟩
  | 2 => ⟨S50000x64x3, .f32⟩
  | 3 => ⟨S50000x64x3, .f32⟩
  | 4 => ⟨S50000x32x5, .f32⟩
  | 5 => ⟨S_, .f32⟩
  | 6 => ⟨S50000x32, .f32⟩
  | 7 => ⟨S_, .f32⟩
  | 8 => ⟨S50000, .f32⟩
  | 9 => ⟨S_, .f32⟩
  | 10 => ⟨S50000, .f32⟩
  | 11 => ⟨S50000, .f32⟩
  | 12 => ⟨S_, .f32⟩
  | 13 => ⟨S50000, .f32⟩
  | 14 => ⟨S50000, .f32⟩
  | 15 => ⟨S50000, .f32⟩
  | 16 => ⟨S50000x1x1, .f32⟩
  | 17 => ⟨S50000x32x5, .f32⟩
  | 18 => ⟨S50000x32x5, .f32⟩
  | 19 => ⟨S50000x128, .f32⟩
  | 20 => ⟨S50000x192, .f32⟩
  | 21 => ⟨S50000x160, .f32⟩
  | 22 => ⟨S50000x480, .f32⟩
  | 23 => ⟨S50000x128, .f32⟩
  | 24 => ⟨S50000x128x1, .f32⟩
  | 25 => ⟨S50000x192, .f32⟩
  | 26 => ⟨S50000x64x3, .f32⟩
  | 27 => ⟨S50000x160, .f32⟩
  | 28 => ⟨S50000x32x5, .f32⟩
  | 29 => ⟨S224x50000x1, .f32⟩
  | 30 => ⟨S50000x224x1, .f32⟩
  | 31 => ⟨S_, .f32⟩
  | 32 => ⟨S50000x224x1, .f32⟩
  | 33 => ⟨S50000x224x1, .f32⟩
  | 34 => ⟨S1x224x1, .f32⟩
  | 35 => ⟨S50000x224x1, .f32⟩
  | 36 => ⟨S50000x224x1, .f32⟩
  | 37 => ⟨S64x50000x3, .f32⟩
  | 38 => ⟨S50000x64x3, .f32⟩
  | 39 => ⟨S_, .f32⟩
  | 40 => ⟨S50000x64x3, .f32⟩
  | 41 => ⟨S50000x64x3, .f32⟩
  | 42 => ⟨S32x50000x5, .f32⟩
  | 43 => ⟨S50000x32x5, .f32⟩
  | 44 => ⟨S_, .f32⟩
  | 45 => ⟨S50000x32x5, .f32⟩
  | 46 => ⟨S50000x32x5, .f32⟩
  | 47 => ⟨S50000x224, .f32⟩
  | 48 => ⟨S50000x192, .f32⟩
  | 49 => ⟨S50000x160, .f32⟩
  | 50 => ⟨S50000x576, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S50000x96, .f32⟩
  | 62 => ⟨S50000x96, .f32⟩
  | 63 => ⟨S50000x96, .f32⟩
  | 64 => ⟨S_, .f32⟩
  | 65 => ⟨S50000x96, .f32⟩
  | 66 => ⟨S50000x96, .f32⟩
  | 67 => ⟨S_, .f32⟩
  | 68 => ⟨S50000x96, .f32⟩
  | 69 => ⟨S50000x96, .f32⟩
  | 70 => ⟨S50000x192, .f32⟩
  | 71 => ⟨S50000x64x3, .f32⟩
  | 72 => ⟨S50000x64, .f32⟩
  | 73 => ⟨S50000x64x1, .f32⟩
  | 74 => ⟨S50000x64x3, .f32⟩
  | 75 => ⟨S50000x64x3, .f32⟩
  | 76 => ⟨S50000x160, .f32⟩
  | 77 => ⟨S50000x32x5, .f32⟩
  | 78 => ⟨S50000x32, .f32⟩
  | 79 => ⟨S50000x32x1, .f32⟩
  | 80 => ⟨S50000x32x5, .f32⟩
  | 81 => ⟨S50000x32x5, .f32⟩
  | 82 => ⟨S50000x192, .f32⟩
  | 83 => ⟨S50000x160, .f32⟩
  | 84 => ⟨S50000x480, .f32⟩
  | 85 => ⟨S50000x128, .f32⟩
  | 86 => ⟨S50000x1, .f32⟩
  | 87 => ⟨S_, .f32⟩
  | 88 => ⟨S50000x1, .f32⟩
  | 89 => ⟨S50000x1, .f32⟩
  | 90 => ⟨S1x1, .f32⟩
  | 91 => ⟨S50000x1, .f32⟩
  | 92 => ⟨S50000x1, .f32⟩
  | 93 => ⟨S50000x1, .i32⟩
  | 94 => ⟨S512, .i32⟩
  | 95 => ⟨S1x512, .i32⟩
  | 96 => ⟨S50000x512, .i32⟩
  | 97 => ⟨S50000x512, .i32⟩
  | 98 => ⟨S50000x512, .i1⟩
  | 99 => ⟨S_, .f32⟩
  | 100 => ⟨S_, .f32⟩
  | 101 => ⟨S50000x512, .f32⟩
  | 102 => ⟨S50000x512, .f32⟩
  | 103 => ⟨S50000x512, .f32⟩
  | 104 => ⟨S_, .f32⟩
  | 105 => ⟨S512, .f32⟩
  | 106 => ⟨S512x1, .f32⟩
  | 107 => ⟨S512x1, .f32⟩
  | 108 => ⟨S_, .f32⟩
  | 109 => ⟨S512x1, .f32⟩
  | 110 => ⟨S512x1, .i1⟩
  | 111 => ⟨S_, .f32⟩
  | 112 => ⟨S_, .f32⟩
  | 113 => ⟨S512x1, .f32⟩
  | 114 => ⟨S512x1, .f32⟩
  | 115 => ⟨S_, .i32⟩
  | 116 => ⟨S50000, .i32⟩
  | 117 => ⟨S50000, .i1⟩
  | 118 => ⟨S_, .i32⟩
  | 119 => ⟨S50000, .i32⟩
  | 120 => ⟨S50000, .i32⟩
  | 121 => ⟨S50000, .i32⟩
  | 122 => ⟨S50000x1, .i32⟩
  | 123 => ⟨S50000x1, .f32⟩
  | 124 => ⟨S50000x1, .f32⟩
  | 125 => ⟨S50000x1, .f32⟩
  | 126 => ⟨S_, .f32⟩
  | 127 => ⟨S512x1, .f32⟩
  | _ => ⟨S50000x3, .f32⟩

abbrev hbmTy0_2 (i : Nat) : BufTy := match i % 128 with
  | 0 => ⟨S50000x1, .i32⟩
  | 1 => ⟨S512x1, .f32⟩
  | 2 => ⟨S_, .i32⟩
  | 3 => ⟨S50000, .i32⟩
  | 4 => ⟨S50000, .i1⟩
  | 5 => ⟨S_, .i32⟩
  | 6 => ⟨S50000, .i32⟩
  | 7 => ⟨S50000, .i32⟩
  | 8 => ⟨S50000, .i32⟩
  | 9 => ⟨S50000x1, .i32⟩
  | 10 => ⟨S50000x1, .f32⟩
  | 11 => ⟨S50000x1, .f32⟩
  | 12 => ⟨S50000x480, .f32⟩
  | 13 => ⟨S50000x480, .f32⟩
  | 14 => ⟨S_, .f32⟩
  | 15 => ⟨S512x480, .f32⟩
  | 16 => ⟨S50000x1, .i32⟩
  | 17 => ⟨S512x480, .f32⟩
  | 18 => ⟨S512x128, .f32⟩
  | 19 => ⟨S512x128x1, .f32⟩
  | 20 => ⟨S512x192, .f32⟩
  | 21 => ⟨S512x64x3, .f32⟩
  | 22 => ⟨S512x160, .f32⟩
  | 23 => ⟨S512x32x5, .f32⟩
  | 24 => ⟨S224x512x1, .f32⟩
  | 25 => ⟨S512x224x1, .f32⟩
  | 26 => ⟨S_, .f32⟩
  | 27 => ⟨S512x224x1, .f32⟩
  | 28 => ⟨S512x224x1, .f32⟩
  | 29 => ⟨S1x224x1, .f32⟩
  | 30 => ⟨S512x224x1, .f32⟩
  | 31 => ⟨S512x224x1, .f32⟩
  | 32 => ⟨S64x512x3, .f32⟩
  | 33 => ⟨S512x64x3, .f32⟩
  | 34 => ⟨S_, .f32⟩
  | 35 => ⟨S512x64x3, .f32⟩
  | 36 => ⟨S512x64x3, .f32⟩
  | 37 => ⟨S32x512x5, .f32⟩
  | 38 => ⟨S512x32x5, .f32⟩
  | 39 => ⟨S_, .f32⟩
  | 40 => ⟨S512x32x5, .f32⟩
  | 41 => ⟨S512x32x5, .f32⟩
  | 42 => ⟨S512x224, .f32⟩
  | 43 => ⟨S512x192, .f32⟩
  | 44 => ⟨S512x160, .f32⟩
  | 45 => ⟨S512x576, .f32⟩
  | 46 => ⟨S512x128, .f32⟩
  | 47 => ⟨S512x128, .f32⟩
  | 48 => ⟨S512x128, .f32⟩
  | 49 => ⟨S_, .f32⟩
  | 50 => ⟨S512x128, .f32⟩
  | 51 => ⟨S512x128, .f32⟩
  | 52 => ⟨S_, .f32⟩
  | 53 => ⟨S512x128, .f32⟩
  | 54 => ⟨S512x128, .f32⟩
  | 55 => ⟨S512x128, .f32⟩
  | 56 => ⟨S512x96, .f32⟩
  | 57 => ⟨S512x96, .f32⟩
  | 58 => ⟨S512x96, .f32⟩
  | 59 => ⟨S_, .f32⟩
  | 60 => ⟨S512x96, .f32⟩
  | 61 => ⟨S512x96, .f32⟩
  | 62 => ⟨S_, .f32⟩
  | 63 => ⟨S512x96, .f32⟩
  | 64 => ⟨S512x96, .f32⟩
  | 65 => ⟨S512x192, .f32⟩
  | 66 => ⟨S512x64x3, .f32⟩
  | 67 => ⟨S512x64, .f32⟩
  | 68 => ⟨S512x64x1, .f32⟩
  | 69 => ⟨S512x64x3, .f32⟩
  | 70 => ⟨S512x64x3, .f32⟩
  | 71 => ⟨S512x160, .f32⟩
  | 72 => ⟨S512x32x5, .f32⟩
  | 73 => ⟨S512x32, .f32⟩
  | 74 => ⟨S512x32x1, .f32⟩
  | 75 => ⟨S512x32x5, .f32⟩
  | 76 => ⟨S512x32x5, .f32⟩
  | 77 => ⟨S512x192, .f32⟩
  | 78 => ⟨S512x160, .f32⟩
  | 79 => ⟨S512x480, .f32⟩
  | 80 => ⟨S512x128, .f32⟩
  | 81 => ⟨S512x128x1, .f32⟩
  | 82 => ⟨S16x512x1, .f32⟩
  | 83 => ⟨S512x16x1, .f32⟩
  | 84 => ⟨S_, .f32⟩
  | 85 => ⟨S512x16x1, .f32⟩
  | 86 => ⟨S512x16x1, .f32⟩
  | 87 => ⟨S1x16x1, .f32⟩
  | 88 => ⟨S512x16x1, .f32⟩
  | 89 => ⟨S512x16x1, .f32⟩
  | 90 => ⟨S512x192, .f32⟩
  | 91 => ⟨S512x64x3, .f32⟩
  | 92 => ⟨S16x512x3, .f32⟩
  | 93 => ⟨S512x16x3, .f32⟩
  | 94 => ⟨S_, .f32⟩
  | 95 => ⟨S512x16x3, .f32⟩
  | 96 => ⟨S512x16x3, .f32⟩
  | 97 => ⟨S512x160, .f32⟩
  | 98 => ⟨S512x32x5, .f32⟩
  | 99 => ⟨S16x512x5, .f32⟩
  | 100 => ⟨S512x16x5, .f32⟩
  | 101 => ⟨S_, .f32⟩
  | 102 => ⟨S512x16x5, .f32⟩
  | 103 => ⟨S512x16x5, .f32⟩
  | 104 => ⟨S512x16x9, .f32⟩
  | 105 => ⟨S512x16x1024, .f32⟩
  | 106 => ⟨S_, .f32⟩
  | 107 => ⟨S512x1024, .f32⟩
  | 108 => ⟨S512x1x1024, .f32⟩
  | 109 => ⟨S512x16x1024, .f32⟩
  | 110 => ⟨S512x16x1024, .f32⟩
  | 111 => ⟨S512x16x1024, .f32⟩
  | 112 => ⟨S_, .f32⟩
  | 113 => ⟨S512x1024, .f32⟩
  | 114 => ⟨S512x1024, .f32⟩
  | 115 => ⟨S_, .f32⟩
  | 116 => ⟨S512x1024, .f32⟩
  | 117 => ⟨S512x1024, .f32⟩
  | 118 => ⟨S_, .f32⟩
  | 119 => ⟨S512, .f32⟩
  | 120 => ⟨S_, .f32⟩
  | 121 => ⟨S512, .f32⟩
  | 122 => ⟨S512, .f32⟩
  | 123 => ⟨S512x1, .f32⟩
  | 124 => ⟨S512x1024, .f32⟩
  | 125 => ⟨S512x1024, .f32⟩
  | 126 => ⟨S512x1024, .f32⟩
  | 127 => ⟨S_, .f32⟩
  | _ => ⟨S50000x3, .f32⟩

abbrev hbmTy0_3 (i : Nat) : BufTy := match i % 128 with
  | 0 => ⟨S512, .f32⟩
  | 1 => ⟨S512x1, .f32⟩
  | 2 => ⟨S512x1024, .f32⟩
  | 3 => ⟨S512x1024, .f32⟩
  | 4 => ⟨S50000x3, .f32⟩
  | 5 => ⟨S50000x3, .f32⟩
  | 6 => ⟨S_, .f32⟩
  | 7 => ⟨S512x3, .f32⟩
  | 8 => ⟨S50000x1, .i32⟩
  | 9 => ⟨S512x3, .f32⟩
  | 10 => ⟨S512x3, .f32⟩
  | 11 => ⟨S512x3, .f32⟩
  | 12 => ⟨S_, .f32⟩
  | 13 => ⟨S512, .f32⟩
  | 14 => ⟨S512x1, .f32⟩
  | 15 => ⟨S512x1, .f32⟩
  | 16 => ⟨S512x1, .f32⟩
  | 17 => ⟨S512, .f32⟩
  | 18 => ⟨S512x1, .f32⟩
  | 19 => ⟨S512, .f32⟩
  | 20 => ⟨S512x1, .f32⟩
  | 21 => ⟨S512, .f32⟩
  | 22 => ⟨S_, .f32⟩
  | 23 => ⟨S512, .f32⟩
  | 24 => ⟨S_, .f32⟩
  | 25 => ⟨S512, .f32⟩
  | 26 => ⟨S512, .f32⟩
  | 27 => ⟨S_, .f32⟩
  | 28 => ⟨S512, .f32⟩
  | 29 => ⟨S512, .f32⟩
  | 30 => ⟨S_, .f32⟩
  | 31 => ⟨S512, .f32⟩
  | 32 => ⟨S512, .f32⟩
  | 33 => ⟨S_, .f32⟩
  | 34 => ⟨S512, .f32⟩
  | 35 => ⟨S512, .f32⟩
  | 36 => ⟨S_, .f32⟩
  | 37 => ⟨S512, .f32⟩
  | 38 => ⟨S512, .f32⟩
  | 39 => ⟨S512, .f32⟩
  | 40 => ⟨S_, .f32⟩
  | 41 => ⟨S512, .f32⟩
  | 42 => ⟨S512, .f32⟩
  | 43 => ⟨S512, .f32⟩
  | 44 => ⟨S_, .f32⟩
  | 45 => ⟨S512, .f32⟩
  | 46 => ⟨S512, .f32⟩
  | 47 => ⟨S512, .f32⟩
  | 48 => ⟨S512, .f32⟩
  | 49 => ⟨S512, .f32⟩
  | 50 => ⟨S512, .f32⟩
  | 51 => ⟨S512, .f32⟩
  | 52 => ⟨S_, .f32⟩
  | 53 => ⟨S512, .f32⟩
  | 54 => ⟨S512, .f32⟩
  | 55 => ⟨S_, .f32⟩
  | 56 => ⟨S512, .f32⟩
  | 57 => ⟨S512, .f32⟩
  | 58 => ⟨S512, .f32⟩
  | 59 => ⟨S512, .f32⟩
  | 60 => ⟨S512, .f32⟩
  | 61 => ⟨S512, .f32⟩
  | 62 => ⟨S_, .f32⟩
  | 63 => ⟨S512, .f32⟩
  | 64 => ⟨S512, .f32⟩
  | 65 => ⟨S512x1, .f32⟩
  | 66 => ⟨S512x1, .f32⟩
  | 67 => ⟨S512x1, .f32⟩
  | 68 => ⟨S512x1, .f32⟩
  | 69 => ⟨S512x1, .f32⟩
  | 70 => ⟨S512x1, .f32⟩
  | 71 => ⟨S512x1, .f32⟩
  | 72 => ⟨S512x1, .f32⟩
  | 73 => ⟨S512x1, .f32⟩
  | 74 => ⟨S512x9, .f32⟩
  | 75 => ⟨S9x1024, .f32⟩
  | 76 => ⟨S512x1024, .f32⟩
  | 77 => ⟨S_, .f32⟩
  | 78 => ⟨S512x1024, .f32⟩
  | 79 => ⟨S512x1024, .f32⟩
  | 80 => ⟨S_, .f32⟩
  | 81 => ⟨S512, .f32⟩
  | 82 => ⟨S_, .f32⟩
  | 83 => ⟨S512, .f32⟩
  | 84 => ⟨S512, .f32⟩
  | 85 => ⟨S512x1, .f32⟩
  | 86 => ⟨S512x1024, .f32⟩
  | 87 => ⟨S512x1024, .f32⟩
  | 88 => ⟨S512x1024, .f32⟩
  | 89 => ⟨S_, .f32⟩
  | 90 => ⟨S512, .f32⟩
  | 91 => ⟨S512x1, .f32⟩
  | 92 => ⟨S512x1024, .f32⟩
  | 93 => ⟨S512x1024, .f32⟩
  | _ => ⟨S50000x3, .f32⟩

abbrev hbmTy (i : Nat) : BufTy := match i / 128 with
  | 0 => hbmTy0_0 i
  | 1 => hbmTy0_1 i
  | 2 => hbmTy0_2 i
  | 3 => hbmTy0_3 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_cst : Ref sig .tc := ⟨.hbm, 23, rfl⟩
abbrev main_v0 : Ref sig .tc := ⟨.hbm, 24, rfl⟩
abbrev main_cst_0 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_cst : Ref sig .tc := ⟨.hbm, 30, rfl⟩
abbrev main_call0_v3 : Ref sig .tc := ⟨.hbm, 31, rfl⟩
abbrev main_call0_v4 : Ref sig .tc := ⟨.hbm, 32, rfl⟩
abbrev main_call0_cst_0 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_v15 : Ref sig .tc := ⟨.hbm, 45, rfl⟩
abbrev main_call0_v16 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst_2 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_cst_3 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst_4 : Ref sig .tc := ⟨.hbm, 65, rfl⟩
abbrev main_v17 : Ref sig .tc := ⟨.hbm, 66, rfl⟩
abbrev main_v18 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v19 : Ref sig .tc := ⟨.hbm, 76, rfl⟩
abbrev main_v20 : Ref sig .tc := ⟨.hbm, 77, rfl⟩
abbrev main_c : Ref sig .tc := ⟨.hbm, 78, rfl⟩
abbrev main_v21 : Ref sig .tc := ⟨.hbm, 79, rfl⟩
abbrev main_v22 : Ref sig .tc := ⟨.hbm, 80, rfl⟩
abbrev main_c_5 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_cst_6 : Ref sig .tc := ⟨.hbm, 94, rfl⟩
abbrev main_v35 : Ref sig .tc := ⟨.hbm, 95, rfl⟩
abbrev main_v36 : Ref sig .tc := ⟨.hbm, 96, rfl⟩
abbrev main_cst_7 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_cst_8 : Ref sig .tc := ⟨.hbm, 103, rfl⟩
abbrev main_v42 : Ref sig .tc := ⟨.hbm, 104, rfl⟩
abbrev main_cst_9 : Ref sig .tc := ⟨.hbm, 105, rfl⟩
abbrev main_v43 : Ref sig .tc := ⟨.hbm, 106, rfl⟩
abbrev main_cst_10 : Ref sig .tc := ⟨.hbm, 107, rfl⟩
abbrev main_v44 : Ref sig .tc := ⟨.hbm, 108, rfl⟩
abbrev main_v45 : Ref sig .tc := ⟨.hbm, 109, rfl⟩
abbrev main_cst_11 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_12 : Ref sig .tc := ⟨.hbm, 118, rfl⟩
abbrev main_v53 : Ref sig .tc := ⟨.hbm, 119, rfl⟩
abbrev main_cst_13 : Ref sig .tc := ⟨.hbm, 120, rfl⟩
abbrev main_v54 : Ref sig .tc := ⟨.hbm, 121, rfl⟩
abbrev main_cst_14 : Ref sig .tc := ⟨.hbm, 122, rfl⟩
abbrev main_v55 : Ref sig .tc := ⟨.hbm, 123, rfl⟩
abbrev main_v56 : Ref sig .tc := ⟨.hbm, 124, rfl⟩
abbrev main_cst_15 : Ref sig .tc := ⟨.hbm, 125, rfl⟩
abbrev main_v57 : Ref sig .tc := ⟨.hbm, 126, rfl⟩
abbrev main_v58 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_cst_16 : Ref sig .tc := ⟨.hbm, 133, rfl⟩
abbrev main_v64 : Ref sig .tc := ⟨.hbm, 134, rfl⟩
abbrev main_cst_17 : Ref sig .tc := ⟨.hbm, 135, rfl⟩
abbrev main_v65 : Ref sig .tc := ⟨.hbm, 136, rfl⟩
abbrev main_cst_18 : Ref sig .tc := ⟨.hbm, 137, rfl⟩
abbrev main_v66 : Ref sig .tc := ⟨.hbm, 138, rfl⟩
abbrev main_v67 : Ref sig .tc := ⟨.hbm, 139, rfl⟩
abbrev main_cst_19 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_cst_20 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_cst_21 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_cst_22 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_call2_v0 : Ref sig .tc := ⟨.hbm, 180, rfl⟩
abbrev main_call2_v1 : Ref sig .tc := ⟨.hbm, 181, rfl⟩
abbrev main_call2_cst : Ref sig .tc := ⟨.hbm, 182, rfl⟩
abbrev main_call2_v2 : Ref sig .tc := ⟨.hbm, 183, rfl⟩
abbrev main_call2_v3 : Ref sig .tc := ⟨.hbm, 184, rfl⟩
abbrev main_call2_cst_0 : Ref sig .tc := ⟨.hbm, 185, rfl⟩
abbrev main_call2_v4 : Ref sig .tc := ⟨.hbm, 186, rfl⟩
abbrev main_call2_v5 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_v107 : Ref sig .tc := ⟨.hbm, 191, rfl⟩
abbrev main_cst_23 : Ref sig .tc := ⟨.hbm, 192, rfl⟩
abbrev main_v108 : Ref sig .tc := ⟨.hbm, 193, rfl⟩
abbrev main_v109 : Ref sig .tc := ⟨.hbm, 194, rfl⟩
abbrev main_cst_24 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_cst_25 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_v139 : Ref sig .tc := ⟨.hbm, 226, rfl⟩
abbrev main_cst_26 : Ref sig .tc := ⟨.hbm, 227, rfl⟩
abbrev main_call3_v0 : Ref sig .tc := ⟨.hbm, 228, rfl⟩
abbrev main_call3_v1 : Ref sig .tc := ⟨.hbm, 229, rfl⟩
abbrev main_call3_v2 : Ref sig .tc := ⟨.hbm, 230, rfl⟩
abbrev main_v140 : Ref sig .tc := ⟨.hbm, 231, rfl⟩
abbrev main_cst_27 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_cst_28 : Ref sig .tc := ⟨.hbm, 236, rfl⟩
abbrev main_v144 : Ref sig .tc := ⟨.hbm, 237, rfl⟩
abbrev main_v145 : Ref sig .tc := ⟨.hbm, 238, rfl⟩
abbrev main_cst_29 : Ref sig .tc := ⟨.hbm, 239, rfl⟩
abbrev main_call4_v0 : Ref sig .tc := ⟨.hbm, 240, rfl⟩
abbrev main_call4_v1 : Ref sig .tc := ⟨.hbm, 241, rfl⟩
abbrev main_v146 : Ref sig .tc := ⟨.hbm, 242, rfl⟩
abbrev main_c_30 : Ref sig .tc := ⟨.hbm, 243, rfl⟩
abbrev main_v147 : Ref sig .tc := ⟨.hbm, 244, rfl⟩
abbrev main_v148 : Ref sig .tc := ⟨.hbm, 245, rfl⟩
abbrev main_c_31 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_cst_32 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_c_33 : Ref sig .tc := ⟨.hbm, 258, rfl⟩
abbrev main_v159 : Ref sig .tc := ⟨.hbm, 259, rfl⟩
abbrev main_v160 : Ref sig .tc := ⟨.hbm, 260, rfl⟩
abbrev main_c_34 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_cst_35 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_v179 : Ref sig .tc := ⟨.hbm, 281, rfl⟩
abbrev main_cst_36 : Ref sig .tc := ⟨.hbm, 282, rfl⟩
abbrev main_v180 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_cst_37 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_cst_38 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_call5_v0 : Ref sig .tc := ⟨.hbm, 303, rfl⟩
abbrev main_call5_v1 : Ref sig .tc := ⟨.hbm, 304, rfl⟩
abbrev main_call5_cst : Ref sig .tc := ⟨.hbm, 305, rfl⟩
abbrev main_call5_v2 : Ref sig .tc := ⟨.hbm, 306, rfl⟩
abbrev main_call5_v3 : Ref sig .tc := ⟨.hbm, 307, rfl⟩
abbrev main_call5_cst_0 : Ref sig .tc := ⟨.hbm, 308, rfl⟩
abbrev main_call5_v4 : Ref sig .tc := ⟨.hbm, 309, rfl⟩
abbrev main_call5_v5 : Ref sig .tc := ⟨.hbm, 310, rfl⟩
abbrev main_v198 : Ref sig .tc := ⟨.hbm, 311, rfl⟩
abbrev main_v199 : Ref sig .tc := ⟨.hbm, 312, rfl⟩
abbrev main_v200 : Ref sig .tc := ⟨.hbm, 313, rfl⟩
abbrev main_v201 : Ref sig .tc := ⟨.hbm, 314, rfl⟩
abbrev main_cst_39 : Ref sig .tc := ⟨.hbm, 315, rfl⟩
abbrev main_v202 : Ref sig .tc := ⟨.hbm, 316, rfl⟩
abbrev main_v203 : Ref sig .tc := ⟨.hbm, 317, rfl⟩
abbrev main_cst_40 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev main_v221 : Ref sig .tc := ⟨.hbm, 336, rfl⟩
abbrev main_v222 : Ref sig .tc := ⟨.hbm, 337, rfl⟩
abbrev main_v223 : Ref sig .tc := ⟨.hbm, 338, rfl⟩
abbrev main_v224 : Ref sig .tc := ⟨.hbm, 339, rfl⟩
abbrev main_cst_41 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_v229 : Ref sig .tc := ⟨.hbm, 345, rfl⟩
abbrev main_v230 : Ref sig .tc := ⟨.hbm, 346, rfl⟩
abbrev main_v231 : Ref sig .tc := ⟨.hbm, 347, rfl⟩
abbrev main_v232 : Ref sig .tc := ⟨.hbm, 348, rfl⟩
abbrev main_v233 : Ref sig .tc := ⟨.hbm, 349, rfl⟩
abbrev main_cst_42 : Ref sig .tc := ⟨.hbm, 350, rfl⟩
abbrev main_v234 : Ref sig .tc := ⟨.hbm, 351, rfl⟩
abbrev main_v235 : Ref sig .tc := ⟨.hbm, 352, rfl⟩
abbrev main_v236 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_cst_43 : Ref sig .tc := ⟨.hbm, 357, rfl⟩
abbrev main_v240 : Ref sig .tc := ⟨.hbm, 358, rfl⟩
abbrev main_v241 : Ref sig .tc := ⟨.hbm, 359, rfl⟩
abbrev main_v242 : Ref sig .tc := ⟨.hbm, 360, rfl⟩
abbrev main_v243 : Ref sig .tc := ⟨.hbm, 361, rfl⟩
abbrev main_cst_44 : Ref sig .tc := ⟨.hbm, 362, rfl⟩
abbrev main_v244 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_cst_45 : Ref sig .tc := ⟨.hbm, 368, rfl⟩
abbrev main_v249 : Ref sig .tc := ⟨.hbm, 369, rfl⟩
abbrev main_v250 : Ref sig .tc := ⟨.hbm, 370, rfl⟩
abbrev main_cst_46 : Ref sig .tc := ⟨.hbm, 371, rfl⟩
abbrev main_v251 : Ref sig .tc := ⟨.hbm, 372, rfl⟩
abbrev main_v252 : Ref sig .tc := ⟨.hbm, 373, rfl⟩
abbrev main_cst_47 : Ref sig .tc := ⟨.hbm, 374, rfl⟩
abbrev main_v253 : Ref sig .tc := ⟨.hbm, 375, rfl⟩
abbrev main_cst_48 : Ref sig .tc := ⟨.hbm, 376, rfl⟩
abbrev main_v254 : Ref sig .tc := ⟨.hbm, 377, rfl⟩
abbrev main_v255 : Ref sig .tc := ⟨.hbm, 378, rfl⟩
abbrev main_v256 : Ref sig .tc := ⟨.hbm, 379, rfl⟩
abbrev main_v257 : Ref sig .tc := ⟨.hbm, 380, rfl⟩
abbrev main_v258 : Ref sig .tc := ⟨.hbm, 381, rfl⟩
abbrev main_v259 : Ref sig .tc := ⟨.hbm, 382, rfl⟩
abbrev main_cst_49 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_v263 : Ref sig .tc := ⟨.hbm, 387, rfl⟩
abbrev main_v264 : Ref sig .tc := ⟨.hbm, 388, rfl⟩
abbrev main_v265 : Ref sig .tc := ⟨.hbm, 389, rfl⟩
abbrev main_cst_50 : Ref sig .tc := ⟨.hbm, 390, rfl⟩
abbrev main_v266 : Ref sig .tc := ⟨.hbm, 391, rfl⟩
abbrev main_v267 : Ref sig .tc := ⟨.hbm, 392, rfl⟩
abbrev main_v268 : Ref sig .tc := ⟨.hbm, 393, rfl⟩
abbrev main_v269 : Ref sig .tc := ⟨.hbm, 394, rfl⟩
abbrev main_call6_v0 : Ref sig .tc := ⟨.hbm, 395, rfl⟩
abbrev main_call6_cst : Ref sig .tc := ⟨.hbm, 396, rfl⟩
abbrev main_call6_v1 : Ref sig .tc := ⟨.hbm, 397, rfl⟩
abbrev main_call6_v2 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_v273 : Ref sig .tc := ⟨.hbm, 402, rfl⟩
abbrev main_v274 : Ref sig .tc := ⟨.hbm, 403, rfl⟩
abbrev main_v275 : Ref sig .tc := ⟨.hbm, 404, rfl⟩
abbrev main_v276 : Ref sig .tc := ⟨.hbm, 405, rfl⟩
abbrev main_cst_51 : Ref sig .tc := ⟨.hbm, 406, rfl⟩
abbrev main_v277 : Ref sig .tc := ⟨.hbm, 407, rfl⟩
abbrev main_cst_52 : Ref sig .tc := ⟨.hbm, 408, rfl⟩
abbrev main_v278 : Ref sig .tc := ⟨.hbm, 409, rfl⟩
abbrev main_v279 : Ref sig .tc := ⟨.hbm, 410, rfl⟩
abbrev main_cst_53 : Ref sig .tc := ⟨.hbm, 411, rfl⟩
abbrev main_v280 : Ref sig .tc := ⟨.hbm, 412, rfl⟩
abbrev main_v281 : Ref sig .tc := ⟨.hbm, 413, rfl⟩
abbrev main_cst_54 : Ref sig .tc := ⟨.hbm, 414, rfl⟩
abbrev main_v282 : Ref sig .tc := ⟨.hbm, 415, rfl⟩
abbrev main_v283 : Ref sig .tc := ⟨.hbm, 416, rfl⟩
abbrev main_cst_55 : Ref sig .tc := ⟨.hbm, 417, rfl⟩
abbrev main_v284 : Ref sig .tc := ⟨.hbm, 418, rfl⟩
abbrev main_v285 : Ref sig .tc := ⟨.hbm, 419, rfl⟩
abbrev main_cst_56 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_cst_57 : Ref sig .tc := ⟨.hbm, 424, rfl⟩
abbrev main_v289 : Ref sig .tc := ⟨.hbm, 425, rfl⟩
abbrev main_v290 : Ref sig .tc := ⟨.hbm, 426, rfl⟩
abbrev main_v291 : Ref sig .tc := ⟨.hbm, 427, rfl⟩
abbrev main_cst_58 : Ref sig .tc := ⟨.hbm, 428, rfl⟩
abbrev main_v292 : Ref sig .tc := ⟨.hbm, 429, rfl⟩
abbrev main_v293 : Ref sig .tc := ⟨.hbm, 430, rfl⟩
abbrev main_v294 : Ref sig .tc := ⟨.hbm, 431, rfl⟩
abbrev main_v295 : Ref sig .tc := ⟨.hbm, 432, rfl⟩
abbrev main_v296 : Ref sig .tc := ⟨.hbm, 433, rfl⟩
abbrev main_v297 : Ref sig .tc := ⟨.hbm, 434, rfl⟩
abbrev main_v298 : Ref sig .tc := ⟨.hbm, 435, rfl⟩
abbrev main_cst_59 : Ref sig .tc := ⟨.hbm, 436, rfl⟩
abbrev main_v299 : Ref sig .tc := ⟨.hbm, 437, rfl⟩
abbrev main_v300 : Ref sig .tc := ⟨.hbm, 438, rfl⟩
abbrev main_cst_60 : Ref sig .tc := ⟨.hbm, 439, rfl⟩
abbrev main_v301 : Ref sig .tc := ⟨.hbm, 440, rfl⟩
abbrev main_v302 : Ref sig .tc := ⟨.hbm, 441, rfl⟩
abbrev main_v303 : Ref sig .tc := ⟨.hbm, 442, rfl⟩
abbrev main_v304 : Ref sig .tc := ⟨.hbm, 443, rfl⟩
abbrev main_v305 : Ref sig .tc := ⟨.hbm, 444, rfl⟩
abbrev main_v306 : Ref sig .tc := ⟨.hbm, 445, rfl⟩
abbrev main_cst_61 : Ref sig .tc := ⟨.hbm, 446, rfl⟩
abbrev main_v307 : Ref sig .tc := ⟨.hbm, 447, rfl⟩
abbrev main_v308 : Ref sig .tc := ⟨.hbm, 448, rfl⟩
abbrev main_v309 : Ref sig .tc := ⟨.hbm, 449, rfl⟩
abbrev main_v310 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_v314 : Ref sig .tc := ⟨.hbm, 454, rfl⟩
abbrev main_v315 : Ref sig .tc := ⟨.hbm, 455, rfl⟩
abbrev main_v316 : Ref sig .tc := ⟨.hbm, 456, rfl⟩
abbrev main_v317 : Ref sig .tc := ⟨.hbm, 457, rfl⟩
abbrev main_v318 : Ref sig .tc := ⟨.hbm, 458, rfl⟩
abbrev main_v319 : Ref sig .tc := ⟨.hbm, 459, rfl⟩
abbrev main_v320 : Ref sig .tc := ⟨.hbm, 460, rfl⟩
abbrev main_cst_62 : Ref sig .tc := ⟨.hbm, 461, rfl⟩
abbrev main_v321 : Ref sig .tc := ⟨.hbm, 462, rfl⟩
abbrev main_v322 : Ref sig .tc := ⟨.hbm, 463, rfl⟩
abbrev main_cst_63 : Ref sig .tc := ⟨.hbm, 464, rfl⟩
abbrev main_v323 : Ref sig .tc := ⟨.hbm, 465, rfl⟩
abbrev main_cst_64 : Ref sig .tc := ⟨.hbm, 466, rfl⟩
abbrev main_v324 : Ref sig .tc := ⟨.hbm, 467, rfl⟩
abbrev main_v325 : Ref sig .tc := ⟨.hbm, 468, rfl⟩
abbrev main_v326 : Ref sig .tc := ⟨.hbm, 469, rfl⟩
abbrev main_v327 : Ref sig .tc := ⟨.hbm, 470, rfl⟩
abbrev main_v328 : Ref sig .tc := ⟨.hbm, 471, rfl⟩
abbrev main_v329 : Ref sig .tc := ⟨.hbm, 472, rfl⟩
abbrev main_cst_65 : Ref sig .tc := ⟨.hbm, 473, rfl⟩
abbrev main_v330 : Ref sig .tc := ⟨.hbm, 474, rfl⟩
abbrev main_v331 : Ref sig .tc := ⟨.hbm, 475, rfl⟩
abbrev main_v332 : Ref sig .tc := ⟨.hbm, 476, rfl⟩
abbrev main_v333 : Ref sig .tc := ⟨.hbm, 477, rfl⟩

abbrev nD : Nat := 1
abbrev τ : Topo := Topo.v7x

variable {F : FTy → Type} [FloatOps F]
-- ==== Proof.NodeStep.lean ====
/- What one grid point of the node kernel does to its scratch buffers, as a function of the input blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The nineteen input blocks of the node kernel at one grid point. -/
structure Ins (F : FTy → Type) [FloatOps F] where
  nf : Vec F S2000x480 .f32
  pos : Vec F S2000x3 .f32
  bcol : Vec F S2000x1 .i32
  brow : Vec F S1x1x2000 .i32
  m0 : Vec F S512x128 .f32
  m1 : Vec F S512x192 .f32
  m2 : Vec F S512x160 .f32
  tgt : Vec F S512x1 .f32
  offs : Vec F S1x64 .f32
  p3 : Vec F S192x192 .f32
  p5 : Vec F S160x160 .f32
  wt : Vec F S64x128 .f32
  bt : Vec F S1x128 .f32
  w0 : Vec F S128x224 .f32
  w1 : Vec F S64x64 .f32
  w2 : Vec F S32x32 .f32
  bf : Vec F S1x224 .f32
  wl : Vec F S128x1 .f32
  bl : Vec F S1x1 .f32

/-- The five scratch buffers of the node kernel: the three parts of the per-graph features, the running maximum of the
    logits, and the running weighted sums. -/
structure Scr (F : FTy → Type) [FloatOps F] where
  b0 : Vec F S512x128 .f32
  b1 : Vec F S512x192 .f32
  b2 : Vec F S512x160 .f32
  mx : Vec F S512x1 .f32
  acc : Vec F S512x484 .f32

namespace Ins
variable (X : Ins F) (S : Scr F)

/-- What the first grid point puts in the scratch buffers before its own rows. -/
def first : Scr F where
  b0 := k0_pay5 X.tgt X.offs X.wt X.bt X.m0
  b1 := k0_pay6 X.m1
  b2 := k0_pay8 (k0_pay7 X.m2)
  mx := k0_pay9
  acc := k0_pay10

/-- The one-hot rows of the block: which graph each node belongs to, nodes down. -/
def hot : FVec F S2000x512 .f32 := k0_pay11 X.bcol
/-- The same, graphs down. -/
def hotT : FVec F S512x2000 .f32 := k0_pay12 X.brow
/-- The degree-two features in component-major order. -/
def deg2 : FVec F S2000x160 .f32 := k0_pay16 X.hot (k0_pay14 X.nf X.p5) S.b2 (constant S2000x160 .f32 0x00000000#32)
/-- Their mean squared length. -/
def deg2sq : FVec F S2000x1 .f32 := k0_pay19 X.hot (k0_pay14 X.nf X.p5) S.b2 (constant S2000x160 .f32 0x00000000#32)
/-- The scalar channels after the first linear map. -/
def mid0 : FVec F S2000x224 .f32 := k0_pay21 (k0_pay17 (k0_pay13 X.bcol X.nf S.b0)) X.w0 X.bf
/-- The degree-one features, normalized. -/
def deg1 : FVec F S2000x192 .f32 := k0_pay18 (k0_pay15 X.bcol X.nf X.p3 S.b1)
/-- The logits before the last bias. -/
def logit0 : FVec F S2000x1 .f32 := k0_pay39 (X.mid0 S) X.wl
/-- The rows the block adds into the weighted sums. -/
def rows : FVec F S2000x484 .f32 :=
  k0_pay43 X.hot X.hotT (k0_pay27 (X.mid0 S))
    (k0_pay31 (X.mid0 S) (k0_pay22 (X.deg1 S) X.w1)) (k0_pay32 (X.mid0 S) (k0_pay23 (X.deg1 S) X.w1)) (k0_pay33 (X.mid0 S) (k0_pay24 (X.deg1 S) X.w1))
    (k0_pay34 (X.mid0 S) (k0_pay25 (X.deg2 S) (X.deg2sq S) X.w2)) (k0_pay35 (X.mid0 S) (k0_pay26 (X.deg2 S) (X.deg2sq S)) X.w2)
    (k0_pay36 (k0_pay20 (X.deg2 S) (X.deg2sq S)) (X.mid0 S) X.w2) (k0_pay37 (k0_pay20 (X.deg2 S) (X.deg2sq S)) (X.mid0 S) X.w2)
    (k0_pay38 (k0_pay20 (X.deg2 S) (X.deg2sq S)) (X.mid0 S) X.w2)
    (X.logit0 S) X.bl S.mx X.pos

/-- The scratch buffers after the grid point. -/
def step : Scr F where
  b0 := S.b0
  b1 := S.b1
  b2 := S.b2
  mx := k0_pay42 X.hotT (X.logit0 S) X.bl S.mx
  acc := k0_pay1 X.hotT (X.rows S) S.acc (k0_pay44 X.hotT (X.logit0 S) X.bl S.mx)

end Ins

/-- The memrefs the node kernel's body is called with, each a whole buffer. -/
structure Args where
  nf : Memref sig .tc .vmem S2000x480 .f32
  h_nf : nf.IsWhole
  pos : Memref sig .tc .vmem S2000x3 .f32
  h_pos : pos.IsWhole
  bcol : Memref sig .tc .vmem S2000x1 .i32
  h_bcol : bcol.IsWhole
  brow : Memref sig .tc .vmem S1x1x2000 .i32
  h_brow : brow.IsWhole
  m0 : Memref sig .tc .vmem S512x128 .f32
  h_m0 : m0.IsWhole
  m1 : Memref sig .tc .vmem S512x192 .f32
  h_m1 : m1.IsWhole
  m2 : Memref sig .tc .vmem S512x160 .f32
  h_m2 : m2.IsWhole
  tgt : Memref sig .tc .vmem S512x1 .f32
  h_tgt : tgt.IsWhole
  offs : Memref sig .tc .vmem S1x64 .f32
  h_offs : offs.IsWhole
  p3 : Memref sig .tc .vmem S192x192 .f32
  h_p3 : p3.IsWhole
  p5 : Memref sig .tc .vmem S160x160 .f32
  h_p5 : p5.IsWhole
  wt : Memref sig .tc .vmem S64x128 .f32
  h_wt : wt.IsWhole
  bt : Memref sig .tc .vmem S1x128 .f32
  h_bt : bt.IsWhole
  w0 : Memref sig .tc .vmem S128x224 .f32
  h_w0 : w0.IsWhole
  w1 : Memref sig .tc .vmem S64x64 .f32
  h_w1 : w1.IsWhole
  w2 : Memref sig .tc .vmem S32x32 .f32
  h_w2 : w2.IsWhole
  bf : Memref sig .tc .vmem S1x224 .f32
  h_bf : bf.IsWhole
  wl : Memref sig .tc .vmem S128x1 .f32
  h_wl : wl.IsWhole
  bl : Memref sig .tc .vmem S1x1 .f32
  h_bl : bl.IsWhole
  gf : Memref sig .tc .vmem S512x480 .f32
  h_gf : gf.IsWhole
  ctr : Memref sig .tc .vmem S512x3 .f32
  h_ctr : ctr.IsWhole
  b0 : Memref sig .tc .vmem S512x128 .f32
  h_b0 : b0.IsWhole
  b1 : Memref sig .tc .vmem S512x192 .f32
  h_b1 : b1.IsWhole
  b2 : Memref sig .tc .vmem S512x160 .f32
  h_b2 : b2.IsWhole
  mx : Memref sig .tc .vmem S512x1 .f32
  h_mx : mx.IsWhole
  acc : Memref sig .tc .vmem S512x484 .f32
  h_acc : acc.IsWhole

namespace Args

/-- The body, called with these memrefs. -/
abbrev body (A : Args) (i : grid0.Coords) : Prog (TpuEff nD τ sig (Elt F) Λ₀ .tc) PUnit :=
  cc0__node_body i A.nf A.h_nf A.pos A.h_pos A.bcol A.h_bcol A.brow A.h_brow A.m0 A.h_m0 A.m1 A.h_m1 A.m2 A.h_m2 A.tgt A.h_tgt A.offs A.h_offs A.p3 A.h_p3 A.p5 A.h_p5 A.wt A.h_wt A.bt A.h_bt A.w0 A.h_w0 A.w1 A.h_w1 A.w2 A.h_w2 A.bf A.h_bf A.wl A.h_wl A.bl A.h_bl A.gf A.h_gf A.ctr A.h_ctr A.b0 A.h_b0 A.b1 A.h_b1 A.b2 A.h_b2 A.mx A.h_mx A.acc A.h_acc

/-- The input memrefs hold the input blocks. -/
def holds (A : Args) (c : Dev nD) (X : Ins F) : sProp 𝕄 :=
  iprop(owns (c : Thread nD τ) A.nf fullShare X.nf ∗ owns (c : Thread nD τ) A.pos fullShare X.pos ∗ owns (c : Thread nD τ) A.bcol fullShare X.bcol ∗ owns (c : Thread nD τ) A.brow fullShare X.brow ∗ owns (c : Thread nD τ) A.m0 fullShare X.m0 ∗ owns (c : Thread nD τ) A.m1 fullShare X.m1 ∗ owns (c : Thread nD τ) A.m2 fullShare X.m2 ∗ owns (c : Thread nD τ) A.tgt fullShare X.tgt ∗ owns (c : Thread nD τ) A.offs fullShare X.offs ∗ owns (c : Thread nD τ) A.p3 fullShare X.p3 ∗ owns (c : Thread nD τ) A.p5 fullShare X.p5 ∗ owns (c : Thread nD τ) A.wt fullShare X.wt ∗ owns (c : Thread nD τ) A.bt fullShare X.bt ∗ owns (c : Thread nD τ) A.w0 fullShare X.w0 ∗ owns (c : Thread nD τ) A.w1 fullShare X.w1 ∗ owns (c : Thread nD τ) A.w2 fullShare X.w2 ∗ owns (c : Thread nD τ) A.bf fullShare X.bf ∗ owns (c : Thread nD τ) A.wl fullShare X.wl ∗ owns (c : Thread nD τ) A.bl fullShare X.bl)

/-- The scratch memrefs hold the scratch state. -/
def state (A : Args) (c : Dev nD) (S : Scr F) : sProp 𝕄 :=
  iprop(owns (c : Thread nD τ) A.b0 fullShare S.b0 ∗ owns (c : Thread nD τ) A.b1 fullShare S.b1 ∗ owns (c : Thread nD τ) A.b2 fullShare S.b2 ∗ owns (c : Thread nD τ) A.mx fullShare S.mx ∗ owns (c : Thread nD τ) A.acc fullShare S.acc)

end Args

/-- The condition under which the body fills the scratch buffers: the first grid point. -/
abbrev isFirst (i : grid0.Coords) : Prop := (Scalar.cmpi .ne (Scalar.extui (Scalar.cmpi .eq (BitVec.ofNat 32 (i 0).val) 0#32)) 0#32) = 1#1
/-- The condition under which the body writes the outputs: the last grid point. -/
abbrev isLast (i : grid0.Coords) : Prop := k0_cond2 i = 1#1

end Cert.KernelIdeal.Gen

end
-- ==== Proof.NodeTriples.lean ====
/- The node kernel's body at each kind of grid point: the first, one in between, the last. -/
module

public import proofs.«01_k».proof.Proof.NodeStep
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Loading the whole of a whole buffer reads what it holds. -/
theorem load_whole2 {p q : ℕ} {e : EltTy} (a : Memref sig .tc .vmem ⟨2, ![p, q]⟩ e) (h : a.IsWhole) (x : Vec F ⟨2, ![p, q]⟩ e)
    (inb : ∀ k, (![0, 0] : Fin 2 → ℕ) k + (![p, q] : Fin 2 → ℕ) k ≤ (⟨2, ![p, q]⟩ : Shape).size k) :
    a.view.readAt (Elt F) (Rect.unit (s := ⟨2, ![p, q]⟩) ![0, 0] ![p, q] inb).toLoadRect (h.unread x) = x :=
  (View.readAt_full a.view (h.unread x) inb).trans (h.read_unread x)

theorem load_whole3 {p q r : ℕ} {e : EltTy} (a : Memref sig .tc .vmem ⟨3, ![p, q, r]⟩ e) (h : a.IsWhole) (x : Vec F ⟨3, ![p, q, r]⟩ e)
    (inb : ∀ k, (![0, 0, 0] : Fin 3 → ℕ) k + (![p, q, r] : Fin 3 → ℕ) k ≤ (⟨3, ![p, q, r]⟩ : Shape).size k) :
    a.view.readAt (Elt F) (Rect.unit (s := ⟨3, ![p, q, r]⟩) ![0, 0, 0] ![p, q, r] inb).toLoadRect (h.unread x) = x :=
  (View.readAt_full a.view (h.unread x) inb).trans (h.read_unread x)

/-- Loading the whole of a buffer just stored whole reads what was stored. -/
theorem load_stored2 {p q : ℕ} {e : EltTy} (a : Memref sig .tc .vmem ⟨2, ![p, q]⟩ e) (f : a.view.ty.Contents (Elt F))
    (inb inb' : ∀ k, (![0, 0] : Fin 2 → ℕ) k + (![p, q] : Fin 2 → ℕ) k ≤ (⟨2, ![p, q]⟩ : Shape).size k) (w : Vec F ⟨2, ![p, q]⟩ e)
    (L : List (View.Piece (Elt F) ⟨2, ![p, q]⟩ e)) :
    a.view.readAt (Elt F) (Rect.unit (s := ⟨2, ![p, q]⟩) ![0, 0] ![p, q] inb).toLoadRect
      (a.view.writes (Elt F) f ((⟨Rect.unit (s := ⟨2, ![p, q]⟩) ![0, 0] ![p, q] inb', w⟩ : View.Piece (Elt F) ⟨2, ![p, q]⟩ e) :: L)) = w :=
  View.readAt_writes_full a.view f inb inb' w L

theorem load_covered2 {p q : ℕ} {e : EltTy} (a : Memref sig .tc .vmem ⟨2, ![p, q]⟩ e)
    (inb inb' : ∀ k, (![0, 0] : Fin 2 → ℕ) k + (![p, q] : Fin 2 → ℕ) k ≤ (⟨2, ![p, q]⟩ : Shape).size k) (w : Vec F ⟨2, ![p, q]⟩ e)
    (L : List (View.Piece (Elt F) ⟨2, ![p, q]⟩ e)) :
    a.view.readCov ((⟨Rect.unit (s := ⟨2, ![p, q]⟩) ![0, 0] ![p, q] inb', w⟩ : View.Piece (Elt F) ⟨2, ![p, q]⟩ e) :: L)
      (Rect.unit (s := ⟨2, ![p, q]⟩) ![0, 0] ![p, q] inb).toLoadRect = w :=
  View.readCov_full a.view inb inb' w L

set_option maxHeartbeats 4000000 in
/-- The first grid point: the scratch buffers are filled, whatever they held, and then take in the rows. -/
theorem body_first (A : Args) (c : Dev nD) (i : grid0.Coords) (hc0 : isFirst i) (hc1 : ¬isLast i)
    (X : Ins F) (S : Scr F) (y : Vec F S512x480 .f32) (z : Vec F S512x3 .f32) (E : Set ℕ) (K : PUnit → sProp 𝕄) :
    iprop(A.holds c X ∗ owns (c : Thread nD τ) A.gf fullShare y ∗ owns (c : Thread nD τ) A.ctr fullShare z ∗ A.state c S
        ∗ (iprop(A.holds c X ∗ owns (c : Thread nD τ) A.gf fullShare y ∗ owns (c : Thread nD τ) A.ctr fullShare z ∗ A.state c (X.step X.first)) -∗ K ⟨⟩))
      ⊢ wp frame (wpE (defs₀ (F := F)) Variants.none c none) E (A.body i) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25⟩ := A
  unfold Args.holds Args.state Args.body
  dsimp only
  simp only [cc0__node_body_eq_skeleton]; unfold cc0__node_body_skel
  simp only [k0_part1_eq_skeleton, k0_part2_eq_skeleton, k0_part3_eq_skeleton, k0_part4_eq_skeleton, k0_part5_eq_skeleton, k0_part6_eq_skeleton]
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨%f19, %e19, H19⟩, ⟨%f20, %e20, H20⟩, ⟨⟨%f21, %e21, H21⟩, ⟨%f22, %e22, H22⟩, ⟨%f23, %e23, H23⟩, ⟨%f24, %e24, H24⟩, ⟨%f25, %e25, H25⟩⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17; obtain rfl := h18.eq_unread e18; obtain rfl := h19.eq_unread e19; obtain rfl := h20.eq_unread e20; obtain rfl := h21.eq_unread e21; obtain rfl := h22.eq_unread e22; obtain rfl := h23.eq_unread e23; obtain rfl := h24.eq_unread e24; obtain rfl := h25.eq_unread e25
  sl_exec (disch := first | sl_exact hc0 | sl_exact hc1)
  sl_step
  iapply Hk
  isplitl [H0 H1 H2 H3 H4 H5 H6 H7 H8 H9 H10 H11 H12 H13 H14 H15 H16 H17 H18]
  · isplitl [H0]; · iexists _; isplitr; swap; iexact H0; ipureintro; exact h0.read_unread _
    isplitl [H1]; · iexists _; isplitr; swap; iexact H1; ipureintro; exact h1.read_unread _
    isplitl [H2]; · iexists _; isplitr; swap; iexact H2; ipureintro; exact h2.read_unread _
    isplitl [H3]; · iexists _; isplitr; swap; iexact H3; ipureintro; exact h3.read_unread _
    isplitl [H4]; · iexists _; isplitr; swap; iexact H4; ipureintro; exact h4.read_unread _
    isplitl [H5]; · iexists _; isplitr; swap; iexact H5; ipureintro; exact h5.read_unread _
    isplitl [H6]; · iexists _; isplitr; swap; iexact H6; ipureintro; exact h6.read_unread _
    isplitl [H7]; · iexists _; isplitr; swap; iexact H7; ipureintro; exact h7.read_unread _
    isplitl [H8]; · iexists _; isplitr; swap; iexact H8; ipureintro; exact h8.read_unread _
    isplitl [H9]; · iexists _; isplitr; swap; iexact H9; ipureintro; exact h9.read_unread _
    isplitl [H10]; · iexists _; isplitr; swap; iexact H10; ipureintro; exact h10.read_unread _
    isplitl [H11]; · iexists _; isplitr; swap; iexact H11; ipureintro; exact h11.read_unread _
    isplitl [H12]; · iexists _; isplitr; swap; iexact H12; ipureintro; exact h12.read_unread _
    isplitl [H13]; · iexists _; isplitr; swap; iexact H13; ipureintro; exact h13.read_unread _
    isplitl [H14]; · iexists _; isplitr; swap; iexact H14; ipureintro; exact h14.read_unread _
    isplitl [H15]; · iexists _; isplitr; swap; iexact H15; ipureintro; exact h15.read_unread _
    isplitl [H16]; · iexists _; isplitr; swap; iexact H16; ipureintro; exact h16.read_unread _
    isplitl [H17]; · iexists _; isplitr; swap; iexact H17; ipureintro; exact h17.read_unread _
    iexists _; isplitr; swap; iexact H18; ipureintro; exact h18.read_unread _
  isplitl [H19]; · iexists _; isplitr; swap; iexact H19; ipureintro; first | exact h19.read_unread _ | (refine (View.read_writes_full _ _ _ _ _).trans ?_; sl_unfold_words; simp only [load_whole2, load_whole3, load_stored2, load_covered2]; rfl)
  isplitl [H20]; · iexists _; isplitr; swap; iexact H20; ipureintro; first | exact h20.read_unread _ | (refine (View.read_writes_full _ _ _ _ _).trans ?_; sl_unfold_words; simp only [load_whole2, load_whole3, load_stored2, load_covered2]; rfl)
  isplitl [H21]; · iexists _; isplitr; swap; iexact H21; ipureintro; first | exact h21.read_unread _ | (refine (View.read_writes_full _ _ _ _ _).trans ?_; sl_unfold_words; simp only [load_whole2, load_whole3, load_stored2, load_covered2]; rfl)
  isplitl [H22]; · iexists _; isplitr; swap; iexact H22; ipureintro; first | exact h22.read_unread _ | (refine (View.read_writes_full _ _ _ _ _).trans ?_; sl_unfold_words; simp only [load_whole2, load_whole3, load_stored2, load_covered2]; rfl)
  isplitl [H23]; · iexists _; isplitr; swap; iexact H23; ipureintro; first | exact h23.read_unread _ | (refine (View.read_writes_full _ _ _ _ _).trans ?_; sl_unfold_words; simp only [load_whole2, load_whole3, load_stored2, load_covered2]; rfl)
  isplitl [H24]; · iexists _; isplitr; swap; iexact H24; ipureintro; first | exact h24.read_unread _ | (refine (View.read_writes_full _ _ _ _ _).trans ?_; sl_unfold_words; simp only [load_whole2, load_whole3, load_stored2, load_covered2]; rfl)
  iexists _; isplitr; swap; iexact H25; ipureintro; first | exact h25.read_unread _ | (refine (View.read_writes_full _ _ _ _ _).trans ?_; sl_unfold_words; simp only [load_whole2, load_whole3, load_stored2, load_covered2]; rfl)

set_option maxHeartbeats 4000000 in
/-- A grid point in between: the scratch buffers take in the rows. -/
theorem body_mid (A : Args) (c : Dev nD) (i : grid0.Coords) (hc0 : ¬isFirst i) (hc1 : ¬isLast i)
    (X : Ins F) (S : Scr F) (y : Vec F S512x480 .f32) (z : Vec F S512x3 .f32) (E : Set ℕ) (K : PUnit → sProp 𝕄) :
    iprop(A.holds c X ∗ owns (c : Thread nD τ) A.gf fullShare y ∗ owns (c : Thread nD τ) A.ctr fullShare z ∗ A.state c S
        ∗ (iprop(A.holds c X ∗ owns (c : Thread nD τ) A.gf fullShare y ∗ owns (c : Thread nD τ) A.ctr fullShare z ∗ A.state c (X.step S)) -∗ K ⟨⟩))
      ⊢ wp frame (wpE (defs₀ (F := F)) Variants.none c none) E (A.body i) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25⟩ := A
  unfold Args.holds Args.state Args.body
  dsimp only
  simp only [cc0__node_body_eq_skeleton]; unfold cc0__node_body_skel
  simp only [k0_part2_eq_skeleton, k0_part3_eq_skeleton, k0_part4_eq_skeleton, k0_part5_eq_skeleton, k0_part6_eq_skeleton]
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨%f19, %e19, H19⟩, ⟨%f20, %e20, H20⟩, ⟨⟨%f21, %e21, H21⟩, ⟨%f22, %e22, H22⟩, ⟨%f23, %e23, H23⟩, ⟨%f24, %e24, H24⟩, ⟨%f25, %e25, H25⟩⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17; obtain rfl := h18.eq_unread e18; obtain rfl := h19.eq_unread e19; obtain rfl := h20.eq_unread e20; obtain rfl := h21.eq_unread e21; obtain rfl := h22.eq_unread e22; obtain rfl := h23.eq_unread e23; obtain rfl := h24.eq_unread e24; obtain rfl := h25.eq_unread e25
  sl_exec (disch := first | sl_exact hc0 | sl_exact hc1)
  sl_step
  iapply Hk
  isplitl [H0 H1 H2 H3 H4 H5 H6 H7 H8 H9 H10 H11 H12 H13 H14 H15 H16 H17 H18]
  · isplitl [H0]; · iexists _; isplitr; swap; iexact H0; ipureintro; exact h0.read_unread _
    isplitl [H1]; · iexists _; isplitr; swap; iexact H1; ipureintro; exact h1.read_unread _
    isplitl [H2]; · iexists _; isplitr; swap; iexact H2; ipureintro; exact h2.read_unread _
    isplitl [H3]; · iexists _; isplitr; swap; iexact H3; ipureintro; exact h3.read_unread _
    isplitl [H4]; · iexists _; isplitr; swap; iexact H4; ipureintro; exact h4.read_unread _
    isplitl [H5]; · iexists _; isplitr; swap; iexact H5; ipureintro; exact h5.read_unread _
    isplitl [H6]; · iexists _; isplitr; swap; iexact H6; ipureintro; exact h6.read_unread _
    isplitl [H7]; · iexists _; isplitr; swap; iexact H7; ipureintro; exact h7.read_unread _
    isplitl [H8]; · iexists _; isplitr; swap; iexact H8; ipureintro; exact h8.read_unread _
    isplitl [H9]; · iexists _; isplitr; swap; iexact H9; ipureintro; exact h9.read_unread _
    isplitl [H10]; · iexists _; isplitr; swap; iexact H10; ipureintro; exact h10.read_unread _
    isplitl [H11]; · iexists _; isplitr; swap; iexact H11; ipureintro; exact h11.read_unread _
    isplitl [H12]; · iexists _; isplitr; swap; iexact H12; ipureintro; exact h12.read_unread _
    isplitl [H13]; · iexists _; isplitr; swap; iexact H13; ipureintro; exact h13.read_unread _
    isplitl [H14]; · iexists _; isplitr; swap; iexact H14; ipureintro; exact h14.read_unread _
    isplitl [H15]; · iexists _; isplitr; swap; iexact H15; ipureintro; exact h15.read_unread _
    isplitl [H16]; · iexists _; isplitr; swap; iexact H16; ipureintro; exact h16.read_unread _
    isplitl [H17]; · iexists _; isplitr; swap; iexact H17; ipureintro; exact h17.read_unread _
    iexists _; isplitr; swap; iexact H18; ipureintro; exact h18.read_unread _
  isplitl [H19]; · iexists _; isplitr; swap; iexact H19; ipureintro; first | exact h19.read_unread _ | (refine (View.read_writes_full _ _ _ _ _).trans ?_; sl_unfold_words; simp only [load_whole2, load_whole3, load_stored2, load_covered2]; rfl)
  isplitl [H20]; · iexists _; isplitr; swap; iexact H20; ipureintro; first | exact h20.read_unread _ | (refine (View.read_writes_full _ _ _ _ _).trans ?_; sl_unfold_words; simp only [load_whole2, load_whole3, load_stored2, load_covered2]; rfl)
  isplitl [H21]; · iexists _; isplitr; swap; iexact H21; ipureintro; first | exact h21.read_unread _ | (refine (View.read_writes_full _ _ _ _ _).trans ?_; sl_unfold_words; simp only [load_whole2, load_whole3, load_stored2, load_covered2]; rfl)
  isplitl [H22]; · iexists _; isplitr; swap; iexact H22; ipureintro; first | exact h22.read_unread _ | (refine (View.read_writes_full _ _ _ _ _).trans ?_; sl_unfold_words; simp only [load_whole2, load_whole3, load_stored2, load_covered2]; rfl)
  isplitl [H23]; · iexists _; isplitr; swap; iexact H23; ipureintro; first | exact h23.read_unread _ | (refine (View.read_writes_full _ _ _ _ _).trans ?_; sl_unfold_words; simp only [load_whole2, load_whole3, load_stored2, load_covered2]; rfl)
  isplitl [H24]; · iexists _; isplitr; swap; iexact H24; ipureintro; first | exact h24.read_unread _ | (refine (View.read_writes_full _ _ _ _ _).trans ?_; sl_unfold_words; simp only [load_whole2, load_whole3, load_stored2, load_covered2]; rfl)
  iexists _; isplitr; swap; iexact H25; ipureintro; first | exact h25.read_unread _ | (refine (View.read_writes_full _ _ _ _ _).trans ?_; sl_unfold_words; simp only [load_whole2, load_whole3, load_stored2, load_covered2]; rfl)

set_option maxHeartbeats 4000000 in
/-- The last grid point: as in between, and the outputs are written. -/
theorem body_last (A : Args) (c : Dev nD) (i : grid0.Coords) (hc0 : ¬isFirst i) (hc1 : isLast i)
    (X : Ins F) (S : Scr F) (y : Vec F S512x480 .f32) (z : Vec F S512x3 .f32) (E : Set ℕ) (K : PUnit → sProp 𝕄) :
    iprop(A.holds c X ∗ owns (c : Thread nD τ) A.gf fullShare y ∗ owns (c : Thread nD τ) A.ctr fullShare z ∗ A.state c S
        ∗ (iprop(A.holds c X ∗ owns (c : Thread nD τ) A.gf fullShare (k0_pay3 (X.step S).acc) ∗ owns (c : Thread nD τ) A.ctr fullShare (k0_pay4 (X.step S).acc) ∗ A.state c (X.step S)) -∗ K ⟨⟩))
      ⊢ wp frame (wpE (defs₀ (F := F)) Variants.none c none) E (A.body i) K := by
  obtain ⟨a0, h0, a1, h1, a2, h2, a3, h3, a4, h4, a5, h5, a6, h6, a7, h7, a8, h8, a9, h9, a10, h10, a11, h11, a12, h12, a13, h13, a14, h14, a15, h15, a16, h16, a17, h17, a18, h18, a19, h19, a20, h20, a21, h21, a22, h22, a23, h23, a24, h24, a25, h25⟩ := A
  unfold Args.holds Args.state Args.body
  dsimp only
  simp only [cc0__node_body_eq_skeleton]; unfold cc0__node_body_skel
  simp only [k0_part2_eq_skeleton, k0_part3_eq_skeleton, k0_part4_eq_skeleton, k0_part5_eq_skeleton, k0_part6_eq_skeleton]
  unfold owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, ⟨%f19, %e19, H19⟩, ⟨%f20, %e20, H20⟩, ⟨⟨%f21, %e21, H21⟩, ⟨%f22, %e22, H22⟩, ⟨%f23, %e23, H23⟩, ⟨%f24, %e24, H24⟩, ⟨%f25, %e25, H25⟩⟩, Hk⟩
  obtain rfl := h0.eq_unread e0; obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8; obtain rfl := h9.eq_unread e9; obtain rfl := h10.eq_unread e10; obtain rfl := h11.eq_unread e11; obtain rfl := h12.eq_unread e12; obtain rfl := h13.eq_unread e13; obtain rfl := h14.eq_unread e14; obtain rfl := h15.eq_unread e15; obtain rfl := h16.eq_unread e16; obtain rfl := h17.eq_unread e17; obtain rfl := h18.eq_unread e18; obtain rfl := h19.eq_unread e19; obtain rfl := h20.eq_unread e20; obtain rfl := h21.eq_unread e21; obtain rfl := h22.eq_unread e22; obtain rfl := h23.eq_unread e23; obtain rfl := h24.eq_unread e24; obtain rfl := h25.eq_unread e25
  sl_exec (disch := first | sl_exact hc0 | sl_exact hc1)
  sl_step
  iapply Hk
  isplitl [H0 H1 H2 H3 H4 H5 H6 H7 H8 H9 H10 H11 H12 H13 H14 H15 H16 H17 H18]
  · isplitl [H0]; · iexists _; isplitr; swap; iexact H0; ipureintro; exact h0.read_unread _
    isplitl [H1]; · iexists _; isplitr; swap; iexact H1; ipureintro; exact h1.read_unread _
    isplitl [H2]; · iexists _; isplitr; swap; iexact H2; ipureintro; exact h2.read_unread _
    isplitl [H3]; · iexists _; isplitr; swap; iexact H3; ipureintro; exact h3.read_unread _
    isplitl [H4]; · iexists _; isplitr; swap; iexact H4; ipureintro; exact h4.read_unread _
    isplitl [H5]; · iexists _; isplitr; swap; iexact H5; ipureintro; exact h5.read_unread _
    isplitl [H6]; · iexists _; isplitr; swap; iexact H6; ipureintro; exact h6.read_unread _
    isplitl [H7]; · iexists _; isplitr; swap; iexact H7; ipureintro; exact h7.read_unread _
    isplitl [H8]; · iexists _; isplitr; swap; iexact H8; ipureintro; exact h8.read_unread _
    isplitl [H9]; · iexists _; isplitr; swap; iexact H9; ipureintro; exact h9.read_unread _
    isplitl [H10]; · iexists _; isplitr; swap; iexact H10; ipureintro; exact h10.read_unread _
    isplitl [H11]; · iexists _; isplitr; swap; iexact H11; ipureintro; exact h11.read_unread _
    isplitl [H12]; · iexists _; isplitr; swap; iexact H12; ipureintro; exact h12.read_unread _
    isplitl [H13]; · iexists _; isplitr; swap; iexact H13; ipureintro; exact h13.read_unread _
    isplitl [H14]; · iexists _; isplitr; swap; iexact H14; ipureintro; exact h14.read_unread _
    isplitl [H15]; · iexists _; isplitr; swap; iexact H15; ipureintro; exact h15.read_unread _
    isplitl [H16]; · iexists _; isplitr; swap; iexact H16; ipureintro; exact h16.read_unread _
    isplitl [H17]; · iexists _; isplitr; swap; iexact H17; ipureintro; exact h17.read_unread _
    iexists _; isplitr; swap; iexact H18; ipureintro; exact h18.read_unread _
  isplitl [H19]; · iexists _; isplitr; swap; iexact H19; ipureintro; first | exact h19.read_unread _ | (refine (View.read_writes_full _ _ _ _ _).trans ?_; sl_unfold_words; simp only [load_whole2, load_whole3, load_stored2, load_covered2]; rfl)
  isplitl [H20]; · iexists _; isplitr; swap; iexact H20; ipureintro; first | exact h20.read_unread _ | (refine (View.read_writes_full _ _ _ _ _).trans ?_; sl_unfold_words; simp only [load_whole2, load_whole3, load_stored2, load_covered2]; rfl)
  isplitl [H21]; · iexists _; isplitr; swap; iexact H21; ipureintro; first | exact h21.read_unread _ | (refine (View.read_writes_full _ _ _ _ _).trans ?_; sl_unfold_words; simp only [load_whole2, load_whole3, load_stored2, load_covered2]; rfl)
  isplitl [H22]; · iexists _; isplitr; swap; iexact H22; ipureintro; first | exact h22.read_unread _ | (refine (View.read_writes_full _ _ _ _ _).trans ?_; sl_unfold_words; simp only [load_whole2, load_whole3, load_stored2, load_covered2]; rfl)
  isplitl [H23]; · iexists _; isplitr; swap; iexact H23; ipureintro; first | exact h23.read_unread _ | (refine (View.read_writes_full _ _ _ _ _).trans ?_; sl_unfold_words; simp only [load_whole2, load_whole3, load_stored2, load_covered2]; rfl)
  isplitl [H24]; · iexists _; isplitr; swap; iexact H24; ipureintro; first | exact h24.read_unread _ | (refine (View.read_writes_full _ _ _ _ _).trans ?_; sl_unfold_words; simp only [load_whole2, load_whole3, load_stored2, load_covered2]; rfl)
  iexists _; isplitr; swap; iexact H25; ipureintro; first | exact h25.read_unread _ | (refine (View.read_writes_full _ _ _ _ _).trans ?_; sl_unfold_words; simp only [load_whole2, load_whole3, load_stored2, load_covered2]; rfl)

end Cert.KernelIdeal.Gen

end
-- ==== Proof.NodeBody.lean ====
/- The node kernel's region: its blocks, the scratch state point by point, and its pipeline's proof data, stated for any
   buffer contents at the region's entry. -/
module

public import proofs.«01_k».proof.Proof.NodeTriples
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Each window's current staging memref at point `t`, spelled as the pipeline passes it (`bodyAt0`), and its wholeness. -/
abbrev ms0_0 (t : Fin cfg0.N) : Memref sig .tc .vmem S2000x480 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2000 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x160 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S192x192 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S160x160 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x224 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x32 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x224 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S128x1 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S512x480 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S512x3 .f32 := win0_20.stage (cfg0.slots t 20)
abbrev hs0_20 (t : Fin cfg0.N) : (ms0_20 t).IsWhole := hstage0_20 ((cfg0.slots t 20).cast nbuf0_20)
/-- The scratch operands: whole scoped buffers of the kernel's own, passed beside the windows. -/
abbrev scM0_0 : Memref sig .tc .vmem S512x128 .f32 := Memref.whole cc0_scratch0
abbrev scM0_1 : Memref sig .tc .vmem S512x192 .f32 := Memref.whole cc0_scratch1
abbrev scM0_2 : Memref sig .tc .vmem S512x160 .f32 := Memref.whole cc0_scratch2
abbrev scM0_3 : Memref sig .tc .vmem S512x1 .f32 := Memref.whole cc0_scratch3
abbrev scM0_4 : Memref sig .tc .vmem S512x484 .f32 := Memref.whole cc0_scratch4

/-- `Gen.scopedRest0_split` as ONE chain: the kernel's own scratch buffers, each whole at some contents, then every
    other scoped buffer, unopened (`Pipeline.scopedRestBut`). -/
theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ Pipeline.scopedRestBut spec0 c [cc0_scratch0, cc0_scratch1, cc0_scratch2, cc0_scratch3, cc0_scratch4]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest0_split, assoc, assoc, assoc, assoc]

/-- The frame kit's invariant with the scratch operands as memrefs owned at some contents (`Gen.scopedRest0_flat`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ Pipeline.scopedRestBut spec0 c [cc0_scratch0, cc0_scratch1, cc0_scratch2, cc0_scratch3, cc0_scratch4]) ∗ (∃ r, prngReg c r)) := by
  unfold Pipeline.ΦA; rw [scopedRest0_flat]; simp only [scM0_0, scM0_1, scM0_2, scM0_3, scM0_4, owns_whole]; try rfl

section Regions
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The memrefs the body is called with at point `t`. -/
abbrev argsAt (t : Fin cfg0.N) : Args where
  nf := ms0_0 t
  h_nf := hs0_0 t
  pos := ms0_1 t
  h_pos := hs0_1 t
  bcol := ms0_2 t
  h_bcol := hs0_2 t
  brow := ms0_3 t
  h_brow := hs0_3 t
  m0 := ms0_4 t
  h_m0 := hs0_4 t
  m1 := ms0_5 t
  h_m1 := hs0_5 t
  m2 := ms0_6 t
  h_m2 := hs0_6 t
  tgt := ms0_7 t
  h_tgt := hs0_7 t
  offs := ms0_8 t
  h_offs := hs0_8 t
  p3 := ms0_9 t
  h_p3 := hs0_9 t
  p5 := ms0_10 t
  h_p5 := hs0_10 t
  wt := ms0_11 t
  h_wt := hs0_11 t
  bt := ms0_12 t
  h_bt := hs0_12 t
  w0 := ms0_13 t
  h_w0 := hs0_13 t
  w1 := ms0_14 t
  h_w1 := hs0_14 t
  w2 := ms0_15 t
  h_w2 := hs0_15 t
  bf := ms0_16 t
  h_bf := hs0_16 t
  wl := ms0_17 t
  h_wl := hs0_17 t
  bl := ms0_18 t
  h_bl := hs0_18 t
  gf := ms0_19 t
  h_gf := hs0_19 t
  ctr := ms0_20 t
  h_ctr := hs0_20 t
  b0 := scM0_0
  h_b0 := Memref.isWhole_whole _
  b1 := scM0_1
  h_b1 := Memref.isWhole_whole _
  b2 := scM0_2
  h_b2 := Memref.isWhole_whole _
  mx := scM0_3
  h_mx := Memref.isWhole_whole _
  acc := scM0_4
  h_acc := Memref.isWhole_whole _

/-- The input blocks at point `t`. -/
def blocksAt (c : Dev nD) (t : Fin cfg0.N) : Ins F where
  nf := iblk0 V c 0 t
  pos := iblk0 V c 1 t
  bcol := iblk0 V c 2 t
  brow := iblk0 V c 3 t
  m0 := iblk0 V c 4 t
  m1 := iblk0 V c 5 t
  m2 := iblk0 V c 6 t
  tgt := iblk0 V c 7 t
  offs := iblk0 V c 8 t
  p3 := iblk0 V c 9 t
  p5 := iblk0 V c 10 t
  wt := iblk0 V c 11 t
  bt := iblk0 V c 12 t
  w0 := iblk0 V c 13 t
  w1 := iblk0 V c 14 t
  w2 := iblk0 V c 15 t
  bf := iblk0 V c 16 t
  wl := iblk0 V c 17 t
  bl := iblk0 V c 18 t

/-- Grid point number `n`. -/
def pt (n : ℕ) : Fin cfg0.N := ⟨n % 25, lt_of_lt_of_eq (Nat.mod_lt _ (by decide)) N_0.symm⟩
theorem pt_val (t : Fin cfg0.N) : pt t.val = t := Fin.ext (Nat.mod_eq_of_lt (lt_of_lt_of_eq t.isLt N_0))

/-- The scratch state after grid point `n`: filled at the first point, one step per point. -/
def scrAt (c : Dev nD) : ℕ → Scr F
  | 0 => (blocksAt V c (pt 0)).step (blocksAt V c (pt 0)).first
  | n + 1 => (blocksAt V c (pt (n + 1))).step (scrAt c n)

/-- The scratch buffers hold the state `S`. -/
def scrHeld (c : Dev nD) (S : Scr F) : sProp 𝕄 :=
  iprop(owns (c : Thread nD τ) scM0_0 fullShare S.b0 ∗ owns (c : Thread nD τ) scM0_1 fullShare S.b1 ∗ owns (c : Thread nD τ) scM0_2 fullShare S.b2 ∗ owns (c : Thread nD τ) scM0_3 fullShare S.mx ∗ owns (c : Thread nD τ) scM0_4 fullShare S.acc)

/-- What is held beside the windows before point `n`: nothing known of the scratch buffers before the first point, then
    the state the points so far left. -/
def between (c : Dev nD) : ℕ → sProp 𝕄
  | 0 => Pipeline.ΦA spec0 c
  | n + 1 => iprop(scrHeld c (scrAt V c n) ∗ Pipeline.scopedRestBut spec0 c [cc0_scratch0, cc0_scratch1, cc0_scratch2, cc0_scratch3, cc0_scratch4] ∗ (∃ r, prngReg c r))

/-- The region's proof data: each input's buffer keeps its block, and the outputs' hold what the state at the point
    divides out to (written at the last point only). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => iblk0 V c 15 t
    | ⟨16, _⟩ => iblk0 V c 16 t
    | ⟨17, _⟩ => iblk0 V c 17 t
    | ⟨18, _⟩ => iblk0 V c 18 t
    | ⟨19, _⟩ => k0_pay3 (scrAt V c t.val).acc
    | ⟨20, _⟩ => k0_pay4 (scrAt V c t.val).acc
    | ⟨_ + 21, h⟩ => absurd h (Nat.not_lt.2 (Nat.le_add_left _ _))
  Φ t := between V c t.val
  q _ := fullShare
  owed _ := 0

theorem A_eq0 (c : Dev nD) (w : Fin cfg0.W) : (dat0 V c).A w = V c (Pipeline.arrRef spec0 w) := by
  dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem before0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem before0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem before0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem before0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl
theorem before0_11 (c : Dev nD) (t : Fin cfg0.N) (d) : (dat0 V c).before 11 t d = iblk0 V c 11 t :=
  ((dat0 V c).before_in_eq_fetched 11 rfl (fun _ => rfl) (fun _ _ _ => rfl) (fun _ => rfl) t d).trans rfl
theorem before0_12 (c : Dev nD) (t : Fin cfg0.N) (d) : (dat0 V c).before 12 t d = iblk0 V c 12 t :=
  ((dat0 V c).before_in_eq_fetched 12 rfl (fun _ => rfl) (fun _ _ _ => rfl) (fun _ => rfl) t d).trans rfl
theorem before0_13 (c : Dev nD) (t : Fin cfg0.N) (d) : (dat0 V c).before 13 t d = iblk0 V c 13 t :=
  ((dat0 V c).before_in_eq_fetched 13 rfl (fun _ => rfl) (fun _ _ _ => rfl) (fun _ => rfl) t d).trans rfl
theorem before0_14 (c : Dev nD) (t : Fin cfg0.N) (d) : (dat0 V c).before 14 t d = iblk0 V c 14 t :=
  ((dat0 V c).before_in_eq_fetched 14 rfl (fun _ => rfl) (fun _ _ _ => rfl) (fun _ => rfl) t d).trans rfl
theorem before0_15 (c : Dev nD) (t : Fin cfg0.N) (d) : (dat0 V c).before 15 t d = iblk0 V c 15 t :=
  ((dat0 V c).before_in_eq_fetched 15 rfl (fun _ => rfl) (fun _ _ _ => rfl) (fun _ => rfl) t d).trans rfl
theorem before0_16 (c : Dev nD) (t : Fin cfg0.N) (d) : (dat0 V c).before 16 t d = iblk0 V c 16 t :=
  ((dat0 V c).before_in_eq_fetched 16 rfl (fun _ => rfl) (fun _ _ _ => rfl) (fun _ => rfl) t d).trans rfl
theorem before0_17 (c : Dev nD) (t : Fin cfg0.N) (d) : (dat0 V c).before 17 t d = iblk0 V c 17 t :=
  ((dat0 V c).before_in_eq_fetched 17 rfl (fun _ => rfl) (fun _ _ _ => rfl) (fun _ => rfl) t d).trans rfl
theorem before0_18 (c : Dev nD) (t : Fin cfg0.N) (d) : (dat0 V c).before 18 t d = iblk0 V c 18 t :=
  ((dat0 V c).before_in_eq_fetched 18 rfl (fun _ => rfl) (fun _ _ _ => rfl) (fun _ => rfl) t d).trans rfl

/-- A window that is never idle leaves what the proof data say. -/
theorem leaves_of (c : Dev nD) (w : Fin cfg0.W) (t : Fin cfg0.N) (h : cfg0.idle w (cfg0.grid.coords t) = false) :
    (dat0 V c).leavesExact w t = owns (c : Thread nD τ) ((cfg0.win w).stage (cfg0.slots t w)) fullShare ((dat0 V c).after w t) := by
  unfold Dat.leavesExact; rw [h]

theorem isFirst_iff : ∀ t : Fin cfg0.N, isFirst (grid0.coords t) ↔ t.val = 0 :=
  (fun t => by
    have ht : t.val < 25 := Nat.lt_of_lt_of_eq t.isLt N_0
    have e0 : (grid0.coords t 0).val = t.val / 1 % 25 := Pipeline.Grid.coords_val t 0 (by decide) rfl
    simp only [isFirst, e0]
    word_cmp
   : ∀ t : Fin grid0.N, isFirst (grid0.coords t) ↔ t.val = 0)
theorem isLast_iff : ∀ t : Fin cfg0.N, isLast (grid0.coords t) ↔ t.val = 24 :=
  (fun t => by
    have ht : t.val < 25 := Nat.lt_of_lt_of_eq t.isLt N_0
    have e0 : (grid0.coords t 0).val = t.val / 1 % 25 := Pipeline.Grid.coords_val t 0 (by decide) rfl
    simp only [isLast, k0_cond2, e0]
    word_cmp
   : ∀ t : Fin grid0.N, isLast (grid0.coords t) ↔ t.val = 24)

/-- Away from the last point the outputs are idle and not written back; at the last point they are live. -/
theorem idle19 : ∀ t : Fin cfg0.N, ¬isLast (grid0.coords t) → cfg0.idle 19 (grid0.coords t) = true ∧ (cfg0.win 19).flush t = false := by decide +kernel
theorem idle20 : ∀ t : Fin cfg0.N, ¬isLast (grid0.coords t) → cfg0.idle 20 (grid0.coords t) = true ∧ (cfg0.win 20).flush t = false := by decide +kernel
theorem live19 : ∀ t : Fin cfg0.N, isLast (grid0.coords t) → cfg0.idle 19 (grid0.coords t) = false := by decide +kernel
theorem live20 : ∀ t : Fin cfg0.N, isLast (grid0.coords t) → cfg0.idle 20 (grid0.coords t) = false := by decide +kernel

/-- The state after a point that is not the first is one step from the state before it. -/
theorem scrAt_pos (c : Dev nD) (t : Fin cfg0.N) (n : ℕ) (h : t.val = n + 1) : scrAt V c t.val = (blocksAt V c t).step (scrAt V c n) := by
  rw [h]; show (blocksAt V c (pt (n + 1))).step _ = _; rw [← h, pt_val]
theorem scrAt_first (c : Dev nD) (t : Fin cfg0.N) (h : t.val = 0) : scrAt V c t.val = (blocksAt V c t).step (blocksAt V c t).first := by
  rw [h]; show (blocksAt V c (pt 0)).step (blocksAt V c (pt 0)).first = _; rw [← h, pt_val]

/-- The body at any point, with what is held beside the windows before and after it. -/
theorem node_point (c : Dev nD) (t : Fin cfg0.N) (K : PUnit → sProp 𝕄) :
    iprop(between V c t.val ∗ (argsAt t).holds c (blocksAt V c t)
        ∗ (∃ d, owns (c : Thread nD τ) (ms0_19 t) fullShare ((dat0 V c).before 19 t d))
        ∗ (∃ d, owns (c : Thread nD τ) (ms0_20 t) fullShare ((dat0 V c).before 20 t d))
        ∗ (iprop(between V c (t.val + 1) ∗ (argsAt t).holds c (blocksAt V c t) ∗ (dat0 V c).leavesExact 19 t ∗ (dat0 V c).leavesExact 20 t) -∗ K ⟨⟩))
      ⊢ wp frame (wpE (defs₀ (F := F)) Variants.none c none) Set.univ ((argsAt t).body (grid0.coords t)) K := by
  rw [show between V c (t.val + 1) = iprop(scrHeld c (scrAt V c t.val) ∗ Pipeline.scopedRestBut spec0 c [cc0_scratch0, cc0_scratch1, cc0_scratch2, cc0_scratch3, cc0_scratch4] ∗ (∃ r, prngReg c r)) from rfl]
  rcases Nat.eq_zero_or_pos t.val with h | h
  · have hl : ¬isLast (grid0.coords t) := fun e => by have := (isLast_iff t).mp e; omega
    rw [show between V c t.val = Pipeline.ΦA spec0 c from by rw [h]; rfl, PhiA0_eq, scrAt_first V c t h,
      (dat0 V c).leavesExact_idle 19 t (idle19 t hl).1 (idle19 t hl).2, (dat0 V c).leavesExact_idle 20 t (idle20 t hl).1 (idle20 t hl).2]
    iintro ⟨⟨⟨⟨%d0, S0⟩, ⟨%d1, S1⟩, ⟨%d2, S2⟩, ⟨%d3, S3⟩, ⟨%d4, S4⟩, HR⟩, Hg⟩, Hh, ⟨%y, Hy⟩, ⟨%z, Hz⟩, Hk⟩
    iapply (body_first (argsAt t) c (grid0.coords t) ((isFirst_iff t).mpr h) hl (blocksAt V c t) ⟨d0, d1, d2, d3, d4⟩ ((dat0 V c).before 19 t y) ((dat0 V c).before 20 t z))
    isplitl [Hh]; · iexact Hh
    isplitl [Hy]; · iexact Hy
    isplitl [Hz]; · iexact Hz
    isplitl [S0 S1 S2 S3 S4]
    · unfold Args.state
      isplitl [S0]; · iexact S0
      isplitl [S1]; · iexact S1
      isplitl [S2]; · iexact S2
      isplitl [S3]; · iexact S3
      iexact S4
    iintro ⟨Hh, Hy, Hz, HS⟩
    iapply Hk
    isplitl [HS HR Hg]
    · isplitl [HS]; · unfold Args.state scrHeld; iexact HS
      isplitl [HR]; · iexact HR
      iexact Hg
    isplitl [Hh]; · iexact Hh
    isplitl [Hy]; · iexists y; iexact Hy
    iexists z; iexact Hz
  · obtain ⟨n, hn⟩ : ∃ n, t.val = n + 1 := ⟨t.val - 1, by omega⟩
    have hf : ¬isFirst (grid0.coords t) := fun e => by have := (isFirst_iff t).mp e; omega
    rw [show between V c t.val = iprop(scrHeld c (scrAt V c n) ∗ Pipeline.scopedRestBut spec0 c [cc0_scratch0, cc0_scratch1, cc0_scratch2, cc0_scratch3, cc0_scratch4] ∗ (∃ r, prngReg c r)) from by rw [hn]; rfl]
    by_cases hl : isLast (grid0.coords t)
    · rw [leaves_of V c 19 t (live19 t hl), leaves_of V c 20 t (live20 t hl),
        show (dat0 V c).after 19 t = k0_pay3 (scrAt V c t.val).acc from rfl, show (dat0 V c).after 20 t = k0_pay4 (scrAt V c t.val).acc from rfl,
        scrAt_pos V c t n hn]
      iintro ⟨⟨HS, HR, Hg⟩, Hh, ⟨%y, Hy⟩, ⟨%z, Hz⟩, Hk⟩
      iapply (body_last (argsAt t) c (grid0.coords t) hf hl (blocksAt V c t) (scrAt V c n) ((dat0 V c).before 19 t y) ((dat0 V c).before 20 t z))
      isplitl [Hh]; · iexact Hh
      isplitl [Hy]; · iexact Hy
      isplitl [Hz]; · iexact Hz
      isplitl [HS]; · unfold Args.state scrHeld; iexact HS
      iintro ⟨Hh, Hy, Hz, HS⟩
      iapply Hk
      isplitl [HS HR Hg]
      · isplitl [HS]; · unfold Args.state scrHeld; iexact HS
        isplitl [HR]; · iexact HR
        iexact Hg
      isplitl [Hh]; · iexact Hh
      isplitl [Hy]; · iexact Hy
      iexact Hz
    · rw [scrAt_pos V c t n hn, (dat0 V c).leavesExact_idle 19 t (idle19 t hl).1 (idle19 t hl).2, (dat0 V c).leavesExact_idle 20 t (idle20 t hl).1 (idle20 t hl).2]
      iintro ⟨⟨HS, HR, Hg⟩, Hh, ⟨%y, Hy⟩, ⟨%z, Hz⟩, Hk⟩
      iapply (body_mid (argsAt t) c (grid0.coords t) hf hl (blocksAt V c t) (scrAt V c n) ((dat0 V c).before 19 t y) ((dat0 V c).before 20 t z))
      isplitl [Hh]; · iexact Hh
      isplitl [Hy]; · iexact Hy
      isplitl [Hz]; · iexact Hz
      isplitl [HS]; · unfold Args.state scrHeld; iexact HS
      iintro ⟨Hh, Hy, Hz, HS⟩
      iapply Hk
      isplitl [HS HR Hg]
      · isplitl [HS]; · unfold Args.state scrHeld; iexact HS
        isplitl [HR]; · iexact HR
        iexact Hg
      isplitl [Hh]; · iexact Hh
      isplitl [Hy]; · iexists y; iexact Hy
      iexists z; iexact Hz

/-- What the pipeline hands the body at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d))
    ∗ (∃ d, owns (c : Thread nD τ) (ms0_14 t) fullShare ((dat0 V c).before 14 t d))
    ∗ (∃ d, owns (c : Thread nD τ) (ms0_15 t) fullShare ((dat0 V c).before 15 t d))
    ∗ (∃ d, owns (c : Thread nD τ) (ms0_16 t) fullShare ((dat0 V c).before 16 t d))
    ∗ (∃ d, owns (c : Thread nD τ) (ms0_17 t) fullShare ((dat0 V c).before 17 t d))
    ∗ (∃ d, owns (c : Thread nD τ) (ms0_18 t) fullShare ((dat0 V c).before 18 t d))
    ∗ (∃ d, owns (c : Thread nD τ) (ms0_19 t) fullShare ((dat0 V c).before 19 t d))
    ∗ (∃ d, owns (c : Thread nD τ) (ms0_20 t) fullShare ((dat0 V c).before 20 t d)))
/-- and what it takes back. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t
    ∗ (dat0 V c).leavesExact 14 t
    ∗ (dat0 V c).leavesExact 15 t
    ∗ (dat0 V c).leavesExact 16 t
    ∗ (dat0 V c).leavesExact 17 t
    ∗ (dat0 V c).leavesExact 18 t
    ∗ (dat0 V c).leavesExact 19 t
    ∗ (dat0 V c).leavesExact 20 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5, before0_6, before0_7, before0_8, before0_9, before0_10, before0_11, before0_12, before0_13, before0_14, before0_15, before0_16, before0_17, before0_18]
  rw [show bodyAt0 (F := F) t = (argsAt t).body (grid0.coords t) from rfl,
    show (dat0 V c).Φ t.castSucc = between V c t.val from rfl, show (dat0 V c).Φ t.succ = between V c (t.val + 1) from rfl,
    show (dat0 V c).owesAt () t.succ = (dat0 V c).owesAt () t.castSucc from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20⟩
  iapply (node_point V c t)
  isplitl [HP]; · iexact HP
  isplitl [H0 H1 H2 H3 H4 H5 H6 H7 H8 H9 H10 H11 H12 H13 H14 H15 H16 H17 H18]
  · unfold Args.holds
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexact H19
  isplitl [H20]; · iexact H20
  unfold Args.holds
  iintro ⟨HP, ⟨H0, H1, H2, H3, H4, H5, H6, H7, H8, H9, H10, H11, H12, H13, H14, H15, H16, H17, H18⟩, H19, H20⟩
  isplitl [HP]; · iexact HP
  isplitl [Ho]; · iexact Ho
  isplitl [H0]; · rw [leaves_of V c 0 t rfl]; iexact H0
  isplitl [H1]; · rw [leaves_of V c 1 t rfl]; iexact H1
  isplitl [H2]; · rw [leaves_of V c 2 t rfl]; iexact H2
  isplitl [H3]; · rw [leaves_of V c 3 t rfl]; iexact H3
  isplitl [H4]; · rw [leaves_of V c 4 t rfl]; iexact H4
  isplitl [H5]; · rw [leaves_of V c 5 t rfl]; iexact H5
  isplitl [H6]; · rw [leaves_of V c 6 t rfl]; iexact H6
  isplitl [H7]; · rw [leaves_of V c 7 t rfl]; iexact H7
  isplitl [H8]; · rw [leaves_of V c 8 t rfl]; iexact H8
  isplitl [H9]; · rw [leaves_of V c 9 t rfl]; iexact H9
  isplitl [H10]; · rw [leaves_of V c 10 t rfl]; iexact H10
  isplitl [H11]; · rw [leaves_of V c 11 t rfl]; iexact H11
  isplitl [H12]; · rw [leaves_of V c 12 t rfl]; iexact H12
  isplitl [H13]; · rw [leaves_of V c 13 t rfl]; iexact H13
  isplitl [H14]; · rw [leaves_of V c 14 t rfl]; iexact H14
  isplitl [H15]; · rw [leaves_of V c 15 t rfl]; iexact H15
  isplitl [H16]; · rw [leaves_of V c 16 t rfl]; iexact H16
  isplitl [H17]; · rw [leaves_of V c 17 t rfl]; iexact H17
  isplitl [H18]; · rw [leaves_of V c 18 t rfl]; iexact H18
  isplitl [H19]; · iexact H19
  iexact H20

/-- The body table's row at point `t`'s slots is the body at the point. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region is what is held before the first point. -/
theorem between_in (c : Dev nD) : Pipeline.ΦA spec0 c ⊢ (dat0 V c).Φ 0 := .rfl

/-- After the last point the scratch buffers' contents are forgotten. -/
theorem between_out (c : Dev nD) : (dat0 V c).Φ (Fin.last cfg0.N) ⊢ Pipeline.ΦA spec0 c := by
  rw [show (dat0 V c).Φ (Fin.last cfg0.N) = between V c (24 + 1) from congrArg (between V c) N_0, PhiA0_eq]
  unfold between scrHeld
  iintro ⟨⟨S0, S1, S2, S3, S4⟩, HR, Hg⟩
  isplitl [S0 S1 S2 S3 S4 HR]
  · isplitl [S0]; · iexists _; iexact S0
    isplitl [S1]; · iexists _; iexact S1
    isplitl [S2]; · iexists _; iexact S2
    isplitl [S3]; · iexists _; iexact S3
    isplitl [S4]; · iexists _; iexact S4
    iexact HR
  iexact Hg

end Regions

end Cert.KernelIdeal.Gen

end
-- ==== Proof.HeadBody.lean ====
/- The head kernel's region: its blocks, what its body leaves, its body's triple, and its pipeline's proof data,
   stated for any buffer contents at the region's entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
variable (V : (c : Dev nD) → (b : Ref sig .tc) → Buf (Elt F) ((c : Thread nD τ).loc b))

/-! # REGION 1 of @main: custom_call 1, `cc1__head_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S128x480 := Rect.unit (s := S128x480) ![0, 0] S128x480.size inb_S128x480_S128x480_0_0
abbrev r1_1 : Rect S128x224 := Rect.unit (s := S128x224) ![0, 0] S128x224.size inb_S128x224_S128x224_0_0
abbrev r1_2 : Rect S1x224 := Rect.unit (s := S1x224) ![0, 0] S1x224.size inb_S1x224_S1x224_0_0
abbrev r1_3 : Rect S64x64 := Rect.unit (s := S64x64) ![0, 0] S64x64.size inb_S64x64_S64x64_0_0
abbrev r1_4 : Rect S32x32 := Rect.unit (s := S32x32) ![0, 0] S32x32.size inb_S32x32_S32x32_0_0
abbrev r1_5 : Rect S128x16 := Rect.unit (s := S128x16) ![0, 0] S128x16.size inb_S128x16_S128x16_0_0
abbrev r1_6 : Rect S1x16 := Rect.unit (s := S1x16) ![0, 0] S1x16.size inb_S1x16_S1x16_0_0
abbrev r1_7 : Rect S64x16 := Rect.unit (s := S64x16) ![0, 0] S64x16.size inb_S64x16_S64x16_0_0
abbrev r1_8 : Rect S32x16 := Rect.unit (s := S32x16) ![0, 0] S32x16.size inb_S32x16_S32x16_0_0
abbrev r1_9 : Rect S9x1024 := Rect.unit (s := S9x1024) ![0, 0] S9x1024.size inb_S9x1024_S9x1024_0_0
abbrev r1_10 : Rect S128x1024 := Rect.unit (s := S128x1024) ![0, 0] S128x1024.size inb_S128x1024_S128x1024_0_0
abbrev r1_11 : Rect S128x3 := Rect.unit (s := S128x3) ![0, 0] S128x3.size inb_S128x3_S128x3_0_0
abbrev r1_12 : Rect S128x1 := Rect.unit (s := S128x1) ![0, 0] S128x1.size inb_S128x1_S128x1_0_0

/-! ## What the body leaves in each output window's buffer -/

/-! ### Values of the body that the stores' payloads, spelt out, would write more than once

    Each is a vector the body binds (often a part call's result), stated over the input windows' blocks and
    numbered on from the skeleton's payload functions (`k1_pay72` …, after `k1_pay71`), so that
    `out1_W` and the values after it name it instead of spelling it out; the comment after each is the printed function's
    name for the value (a count appended where that name is bound again). -/

def k1_pay72 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x480 .f32 :=
  k1_pay2 (View.ld x0 r1_0) -- `v1`
def k1_pay73 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x224 .f32 :=
  k1_pay3 (View.ld x0 r1_0) (View.ld x3 r1_1) (View.ld x6 r1_2) -- `v10`
def k1_pay74 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x32 .f32 :=
  k1_pay17 (k1_pay72 x0 x1 x2 x3 x4 x5 x6 x7 x8 x9 x10 x11) (k1_pay73 x0 x1 x2 x3 x4 x5 x6 x7 x8 x9 x10 x11) (View.ld x5 r1_4) -- `v71`
def k1_pay75 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay20 (k1_pay18 (k1_pay73 x0 x1 x2 x3 x4 x5 x6 x7 x8 x9 x10 x11) (View.ld x7 r1_5)) (k1_pay19 (F := F)) (View.ld x10 r1_6) -- `v79`
def k1_pay76 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay21 (k1_pay10 (k1_pay73 x0 x1 x2 x3 x4 x5 x6 x7 x8 x9 x10 x11) (k1_pay4 (View.ld x0 r1_0) (View.ld x4 r1_3))) (View.ld x8 r1_7) -- `v83`
def k1_pay77 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay22 (k1_pay11 (k1_pay73 x0 x1 x2 x3 x4 x5 x6 x7 x8 x9 x10 x11) (k1_pay5 (View.ld x0 r1_0) (View.ld x4 r1_3))) (View.ld x8 r1_7) -- `v87`
def k1_pay78 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay23 (k1_pay12 (k1_pay73 x0 x1 x2 x3 x4 x5 x6 x7 x8 x9 x10 x11) (k1_pay6 (View.ld x0 r1_0) (View.ld x4 r1_3))) (View.ld x8 r1_7) -- `v91`
def k1_pay79 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay24 (k1_pay13 (k1_pay73 x0 x1 x2 x3 x4 x5 x6 x7 x8 x9 x10 x11) (k1_pay7 (View.ld x0 r1_0) (View.ld x5 r1_4))) (View.ld x9 r1_8) -- `v95`
def k1_pay80 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay25 (k1_pay14 (k1_pay73 x0 x1 x2 x3 x4 x5 x6 x7 x8 x9 x10 x11) (k1_pay8 (View.ld x0 r1_0)) (View.ld x5 r1_4)) (View.ld x9 r1_8) -- `v99`
def k1_pay81 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay26 (k1_pay15 (k1_pay72 x0 x1 x2 x3 x4 x5 x6 x7 x8 x9 x10 x11) (k1_pay73 x0 x1 x2 x3 x4 x5 x6 x7 x8 x9 x10 x11) (View.ld x5 r1_4)) (View.ld x9 r1_8) -- `v103`
def k1_pay82 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay27 (k1_pay16 (k1_pay72 x0 x1 x2 x3 x4 x5 x6 x7 x8 x9 x10 x11) (k1_pay73 x0 x1 x2 x3 x4 x5 x6 x7 x8 x9 x10 x11) (View.ld x5 r1_4)) (View.ld x9 r1_8) -- `v105`
def k1_pay83 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay28 (k1_pay82 x0 x1 x2 x3 x4 x5 x6 x7 x8 x9 x10 x11) -- `v107`
def k1_pay84 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x16 .f32 :=
  k1_pay29 (k1_pay74 x0 x1 x2 x3 x4 x5 x6 x7 x8 x9 x10 x11) (View.ld x9 r1_8) -- `v111`
def k1_pay85 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x1024 .f32 :=
  constant S128x1024 .f32 0x00000000#32 -- `cst_90`
def k1_pay86 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x1024 .f32 :=
  k1_pay43 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) (k1_pay39 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) (k1_pay30 (k1_pay74 x0 x1 x2 x3 x4 x5 x6 x7 x8 x9 x10 x11) (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay82 x0 x1 x2 x3 x4 x5 x6 x7 x8 x9 x10 x11) (View.ld x9 r1_8) (View.ld x11 r1_9)) (k1_pay31 (k1_pay75 x0 x1 x2 x3 x4 x5 x6 x7 x8 x9 x10 x11)) (k1_pay32 (k1_pay76 x0 x1 x2 x3 x4 x5 x6 x7 x8 x9 x10 x11)) (k1_pay33 (k1_pay77 x0 x1 x2 x3 x4 x5 x6 x7 x8 x9 x10 x11)) (k1_pay34 (k1_pay78 x0 x1 x2 x3 x4 x5 x6 x7 x8 x9 x10 x11)) (k1_pay35 (k1_pay79 x0 x1 x2 x3 x4 x5 x6 x7 x8 x9 x10 x11)) (k1_pay36 (k1_pay80 x0 x1 x2 x3 x4 x5 x6 x7 x8 x9 x10 x11)) (k1_pay37 (k1_pay81 x0 x1 x2 x3 x4 x5 x6 x7 x8 x9 x10 x11)) (k1_pay38 (k1_pay82 x0 x1 x2 x3 x4 x5 x6 x7 x8 x9 x10 x11))) (k1_pay40 (k1_pay75 x0 x1 x2 x3 x4 x5 x6 x7 x8 x9 x10 x11)) (k1_pay41 (k1_pay76 x0 x1 x2 x3 x4 x5 x6 x7 x8 x9 x10 x11)) (k1_pay42 (k1_pay77 x0 x1 x2 x3 x4 x5 x6 x7 x8 x9 x10 x11)) -- `v255`
def k1_pay87 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x9 .f32 :=
  k1_pay44 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) -- `v265`
def k1_pay88 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : FVec F S128x1024 .f32 :=
  k1_pay45 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) (k1_pay86 x0 x1 x2 x3 x4 x5 x6 x7 x8 x9 x10 x11) (k1_pay87 x0 x1 x2 x3 x4 x5 x6 x7 x8 x9 x10 x11) (k1_pay85 x0 x1 x2 x3 x4 x5 x6 x7 x8 x9 x10 x11) -- `v303`

/-- Window 12's staging buffer after the body, from the input windows' blocks: its 1 store as pieces, LAST
    FIRST (Lib/Pipeline/FrameBody.lean `View.canon`; the payloads are the skeleton's and the values stated above). -/
def out1_12 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : Vec F S128x1024 .f32 :=
  View.canon [⟨r1_10, k1_pay58 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) (k1_pay88 x0 x1 x2 x3 x4 x5 x6 x7 x8 x9 x10 x11) (k1_pay55 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) (k1_pay88 x0 x1 x2 x3 x4 x5 x6 x7 x8 x9 x10 x11) (k1_pay52 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) (k1_pay88 x0 x1 x2 x3 x4 x5 x6 x7 x8 x9 x10 x11) (k1_pay49 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) (k1_pay88 x0 x1 x2 x3 x4 x5 x6 x7 x8 x9 x10 x11) (k1_pay46 (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) (k1_pay86 x0 x1 x2 x3 x4 x5 x6 x7 x8 x9 x10 x11) (k1_pay87 x0 x1 x2 x3 x4 x5 x6 x7 x8 x9 x10 x11) (k1_pay85 x0 x1 x2 x3 x4 x5 x6 x7 x8 x9 x10 x11)) (k1_pay47 (k1_pay75 x0 x1 x2 x3 x4 x5 x6 x7 x8 x9 x10 x11)) (k1_pay48 (k1_pay76 x0 x1 x2 x3 x4 x5 x6 x7 x8 x9 x10 x11))) (k1_pay50 (k1_pay75 x0 x1 x2 x3 x4 x5 x6 x7 x8 x9 x10 x11)) (k1_pay51 (k1_pay76 x0 x1 x2 x3 x4 x5 x6 x7 x8 x9 x10 x11))) (k1_pay53 (k1_pay75 x0 x1 x2 x3 x4 x5 x6 x7 x8 x9 x10 x11)) (k1_pay54 (k1_pay76 x0 x1 x2 x3 x4 x5 x6 x7 x8 x9 x10 x11))) (k1_pay56 (k1_pay75 x0 x1 x2 x3 x4 x5 x6 x7 x8 x9 x10 x11)) (k1_pay57 (k1_pay76 x0 x1 x2 x3 x4 x5 x6 x7 x8 x9 x10 x11))⟩]

/-- Its stores tile the buffer (checked by evaluation), so they cover it. -/
theorem cover1_12 (p0 : Vec F S128x1024 .f32) (y : S128x1024.Idx) :
    ∃ pc ∈ ([⟨r1_10, p0⟩] : List (View.Piece (Elt F) S128x1024 .f32)), y ∈ pc.1.set :=
  View.cover_of_tiled [⟨r1_10, p0⟩] S128x1024.size (by rfl) y

/-- Window 13's staging buffer after the body, from the input windows' blocks: its 1 store as pieces, LAST
    FIRST (Lib/Pipeline/FrameBody.lean `View.canon`; the payloads are the skeleton's and the values stated above). -/
def out1_13 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : Vec F S128x1024 .f32 :=
  View.canon [⟨r1_10, k1_pay1 (View.ld x11 r1_9) (k1_pay60 (View.ld x2 r1_11) (View.ld x1 r1_11)) (k1_pay61 (View.ld x2 r1_11) (View.ld x1 r1_11)) (k1_pay64 (F := F)) (k1_pay65 (View.ld x2 r1_11) (View.ld x1 r1_11)) (k1_pay66 (View.ld x2 r1_11) (View.ld x1 r1_11)) (k1_pay67 (View.ld x2 r1_11) (View.ld x1 r1_11)) (k1_pay68 (View.ld x2 r1_11) (View.ld x1 r1_11)) (k1_pay69 (View.ld x2 r1_11) (View.ld x1 r1_11)) (k1_pay70 (View.ld x2 r1_11) (View.ld x1 r1_11)) (k1_pay71 (View.ld x2 r1_11) (View.ld x1 r1_11))⟩]

/-- Its stores tile the buffer (checked by evaluation), so they cover it. -/
theorem cover1_13 (p0 : Vec F S128x1024 .f32) (y : S128x1024.Idx) :
    ∃ pc ∈ ([⟨r1_10, p0⟩] : List (View.Piece (Elt F) S128x1024 .f32)), y ∈ pc.1.set :=
  View.cover_of_tiled [⟨r1_10, p0⟩] S128x1024.size (by rfl) y

/-- Window 14's staging buffer after the body, from the input windows' blocks: its 1 store as pieces, LAST
    FIRST (Lib/Pipeline/FrameBody.lean `View.canon`; the payloads are the skeleton's and the values stated above). -/
def out1_14 (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) : Vec F S128x1 .f32 :=
  View.canon [⟨r1_12, k1_pay63 (View.ld x2 r1_11) (View.ld x1 r1_11)⟩]

/-- Its stores tile the buffer (checked by evaluation), so they cover it. -/
theorem cover1_14 (p0 : Vec F S128x1 .f32) (y : S128x1.Idx) :
    ∃ pc ∈ ([⟨r1_12, p0⟩] : List (View.Piece (Elt F) S128x1 .f32)), y ∈ pc.1.set :=
  View.cover_of_tiled [⟨r1_12, p0⟩] S128x1.size (by rfl) y

/-! ## The body's triple -/

set_option maxHeartbeats 2535600 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S128x480 .f32) (harg1 : arg1.IsWhole) (arg2 : Memref sig .tc .vmem S128x3 .f32) (harg2 : arg2.IsWhole) (arg3 : Memref sig .tc .vmem S128x3 .f32) (harg3 : arg3.IsWhole) (arg4 : Memref sig .tc .vmem S128x224 .f32) (harg4 : arg4.IsWhole) (arg5 : Memref sig .tc .vmem S64x64 .f32) (harg5 : arg5.IsWhole) (arg6 : Memref sig .tc .vmem S32x32 .f32) (harg6 : arg6.IsWhole) (arg7 : Memref sig .tc .vmem S1x224 .f32) (harg7 : arg7.IsWhole) (arg8 : Memref sig .tc .vmem S128x16 .f32) (harg8 : arg8.IsWhole) (arg9 : Memref sig .tc .vmem S64x16 .f32) (harg9 : arg9.IsWhole) (arg10 : Memref sig .tc .vmem S32x16 .f32) (harg10 : arg10.IsWhole) (arg11 : Memref sig .tc .vmem S1x16 .f32) (harg11 : arg11.IsWhole) (arg12 : Memref sig .tc .vmem S9x1024 .f32) (harg12 : arg12.IsWhole) (arg13 : Memref sig .tc .vmem S128x1024 .f32) (harg13 : arg13.IsWhole) (arg14 : Memref sig .tc .vmem S128x1024 .f32) (harg14 : arg14.IsWhole) (arg15 : Memref sig .tc .vmem S128x1 .f32) (harg15 : arg15.IsWhole)
    (x0 : Vec F S128x480 .f32) (x1 : Vec F S128x3 .f32) (x2 : Vec F S128x3 .f32) (x3 : Vec F S128x224 .f32) (x4 : Vec F S64x64 .f32) (x5 : Vec F S32x32 .f32) (x6 : Vec F S1x224 .f32) (x7 : Vec F S128x16 .f32) (x8 : Vec F S64x16 .f32) (x9 : Vec F S32x16 .f32) (x10 : Vec F S1x16 .f32) (x11 : Vec F S9x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11) ∗ owns (c : Thread nD τ) arg14 fullShare (out1_13 x0 x1 x2 x3 x4 x5 x6 x7 x8 x9 x10 x11) ∗ owns (c : Thread nD τ) arg15 fullShare (out1_14 x0 x1 x2 x3 x4 x5 x6 x7 x8 x9 x10 x11)) -∗ K ⟨⟩))
      ⊢ wp frame (wpE (defs₀ (F := F)) Variants.none c none) E (cc1__head_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__head_body_eq_skeleton]; unfold cc1__head_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover1_12 _)).trans ?_
    rfl
  isplitl [H13]
  · iexists _; isplitr
    swap; · iexact H13
    ipureintro
    refine (View.read_writes_eq_canon _ _ _ (cover1_13 _)).trans ?_
    rfl
  iexists _; isplitr
  swap; · iexact H14
  ipureintro
  refine (View.read_writes_eq_canon _ _ _ (cover1_14 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.WholeRun.lean ====
/- The whole program's run: the buffer contents between its items, the two regions as segments, the launch,
   and the frame. -/
module

public import proofs.«01_k».proof.Proof.NodeBody
public import proofs.«01_k».proof.Proof.HeadBody
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_cst_1, main_v0, main_v1, main_v2, main_cst_2, main_cst_3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v4, main_v5, main_v6, main_v7, main_v8, main_v9, main_v10, main_v11, main_v12, main_v13, main_v14, main_v15, main_v16]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v18, main_v19]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)
theorem W6_main_arg12 (c : Dev nD) : W6 m ρ c (Proc.devRef .tc main_arg12) = m ((c : Thread nD τ).loc main_arg12) :=
  W6_args m ρ c main_arg12 (by decide)
theorem W6_main_arg13 (c : Dev nD) : W6 m ρ c (Proc.devRef .tc main_arg13) = m ((c : Thread nD τ).loc main_arg13) :=
  W6_args m ρ c main_arg13 (by decide)
theorem W6_main_arg14 (c : Dev nD) : W6 m ρ c (Proc.devRef .tc main_arg14) = m ((c : Thread nD τ).loc main_arg14) :=
  W6_args m ρ c main_arg14 (by decide)
theorem W6_main_arg15 (c : Dev nD) : W6 m ρ c (Proc.devRef .tc main_arg15) = m ((c : Thread nD τ).loc main_arg15) :=
  W6_args m ρ c main_arg15 (by decide)
theorem W6_main_arg16 (c : Dev nD) : W6 m ρ c (Proc.devRef .tc main_arg16) = m ((c : Thread nD τ).loc main_arg16) :=
  W6_args m ρ c main_arg16 (by decide)
theorem W6_main_arg17 (c : Dev nD) : W6 m ρ c (Proc.devRef .tc main_arg17) = m ((c : Thread nD τ).loc main_arg17) :=
  W6_args m ρ c main_arg17 (by decide)
theorem W6_main_arg18 (c : Dev nD) : W6 m ρ c (Proc.devRef .tc main_arg18) = m ((c : Thread nD τ).loc main_arg18) :=
  W6_args m ρ c main_arg18 (by decide)
theorem W6_main_arg19 (c : Dev nD) : W6 m ρ c (Proc.devRef .tc main_arg19) = m ((c : Thread nD τ).loc main_arg19) :=
  W6_args m ρ c main_arg19 (by decide)
theorem W6_main_arg20 (c : Dev nD) : W6 m ρ c (Proc.devRef .tc main_arg20) = m ((c : Thread nD τ).loc main_arg20) :=
  W6_args m ρ c main_arg20 (by decide)
theorem W6_main_arg21 (c : Dev nD) : W6 m ρ c (Proc.devRef .tc main_arg21) = m ((c : Thread nD τ).loc main_arg21) :=
  W6_args m ρ c main_arg21 (by decide)
theorem W6_main_arg22 (c : Dev nD) : W6 m ρ c (Proc.devRef .tc main_arg22) = m ((c : Thread nD τ).loc main_arg22) :=
  W6_args m ρ c main_arg22 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    unfold Pipeline.ΦA
    iintro ⟨Hp, -, Hr⟩
    isplitl [Hr]; · iexact Hr
    iexact Hp
  hout c := by
    rw [Pipeline.ownSems0_none]
    refine (between_out (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters, every weakly fair execution of @main on the TensorCores ends, nothing
    faulting, with every unscoped array at the last boundary's contents and every semaphore counter at zero. -/
theorem whole : θ_run defs (onTc (τ := τ) (main (F := F))) ⟨m, fun _ => 0, ρ⟩ (fun r =>
    (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The argument arrays end as launched, in any final state that holds the last boundary's contents. -/
theorem args_kept (mem : (ℓ : Loc nD τ sig) → Buf (Elt F) ℓ) (h : ∀ c : Dev nD, ∀ b ∈ Pipeline.ucRefs τ sig, mem (((c : Thread nD τ)).1, b) = W6 m ρ c b) (c : Dev nD) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13)
      ∧ mem ((c.tc : Thread nD τ).loc main_arg14) = m ((c.tc : Thread nD τ).loc main_arg14)
      ∧ mem ((c.tc : Thread nD τ).loc main_arg15) = m ((c.tc : Thread nD τ).loc main_arg15)
      ∧ mem ((c.tc : Thread nD τ).loc main_arg16) = m ((c.tc : Thread nD τ).loc main_arg16)
      ∧ mem ((c.tc : Thread nD τ).loc main_arg17) = m ((c.tc : Thread nD τ).loc main_arg17)
      ∧ mem ((c.tc : Thread nD τ).loc main_arg18) = m ((c.tc : Thread nD τ).loc main_arg18)
      ∧ mem ((c.tc : Thread nD τ).loc main_arg19) = m ((c.tc : Thread nD τ).loc main_arg19)
      ∧ mem ((c.tc : Thread nD τ).loc main_arg20) = m ((c.tc : Thread nD τ).loc main_arg20)
      ∧ mem ((c.tc : Thread nD τ).loc main_arg21) = m ((c.tc : Thread nD τ).loc main_arg21)
      ∧ mem ((c.tc : Thread nD τ).loc main_arg22) = m ((c.tc : Thread nD τ).loc main_arg22) :=
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩

/-- The argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨args_kept m ρ r.2.mem h.1, h.2⟩) (whole m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h => h.1) (frame m ρ)

end Cert.KernelIdeal.Gen

end
-- ==== Proof.Bridge.lean ====
/- The unidealized kernel's frame: the two programs differ in one constant only. -/
module

public import proofs.«01_k».proof.Proof.Gen.Kernel
public import proofs.«01_k».proof.Proof.Gen.KernelIdeal
public import proofs.«01_k».proof.Proof.WholeRun
public import Idealize.ShloMosaic.PureOps.BitExact

@[expose] public section

noncomputable section

namespace Cert.Proof

open Idealize.ShloMosaic Idealize.SL.Sem

/-- At machine words a named constant is its printed word. -/
local instance bitsNamed : Named Bits := ⟨fun _ _ {_} bits => FloatOps.ofBits _ bits⟩

set_option maxHeartbeats 4000000
attribute [local instance] Cert.Kernel.Gen.facts Cert.KernelIdeal.Gen.facts
/-- The two body tables agree, row by row. -/
theorem rows_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Λ := Cert.Kernel.Λ₀) (Val := Elt Bits)) ?_
  funext l a
  match l with
  | 0 => obtain ⟨t, s⟩ := a; rfl
  | 1 => obtain ⟨t, s⟩ := a; rfl

/-- So do the tables with the pipelines' rows. -/
theorem table_eq : Cert.Kernel.defs (F := Bits) = Cert.KernelIdeal.defs (F := Bits) :=
  congrArg (Pipeline.defs (Cert.Kernel.pcfgs (F := Bits))) rows_eq

/-- And so do the two programs' main functions. -/
theorem main_eq : Cert.Kernel.main (F := Bits) = Cert.KernelIdeal.main (F := Bits) := rfl

/-- The unidealized kernel's frame: the idealized program's, at machine words. -/
theorem kernel_frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)) ∧ r.2.sem = fun _ => 0) := by
  have h := Cert.KernelIdeal.Gen.frame (F := Bits) m ρ
  rw [← table_eq, ← main_eq] at h
  exact h

end Cert.Proof

end
-- ==== Proof.Fold.lean ====
/- The running softmax of one group: the largest logit so far and the sums weighted against it, and how they turn
   into the softmax sums of the whole group. -/
module

public import Idealize.ShloMosaic.Lib.Pointwise

@[expose] public section

noncomputable section

namespace Cert.Fold

open Idealize.ShloMosaic

theorem exp_coe (r : ℝ) : Ideal.exp (r : EReal) = (Real.exp r : EReal) := rfl
theorem exp_bot : Ideal.exp ⊥ = 0 := rfl

/-- The exponential of a difference of reals splits at any real between. -/
theorem exp_split (a b c : ℝ) : Ideal.exp ((a : EReal) - b) * Ideal.exp ((b : EReal) - c) = Ideal.exp ((a : EReal) - c) := by
  rw [← EReal.coe_sub, ← EReal.coe_sub, ← EReal.coe_sub, exp_coe, exp_coe, exp_coe, ← EReal.coe_mul, ← Real.exp_add]
  congr 2; ring

/-- A nonnegative real factor distributes over a finite sum. -/
theorem sum_mul_real {ι : Type} (s : Finset ι) (f : ι → EReal) (c : EReal) (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

theorem sum_coe {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

section Group
variable (hit : ℕ → Prop) [DecidablePred hit] (l P : ℕ → EReal)

/-- The largest logit of the group among the first `s` nodes, `⊥` if none of them is in it. -/
def top (s : ℕ) : EReal := (Finset.range s).sup fun n => if hit n then l n else ⊥

/-- The sum over the group's nodes among the first `s`, each weighted by its logit against `m`. -/
def wsum (m : EReal) (s : ℕ) : EReal := ∑ n ∈ Finset.range s, if hit n then P n * Ideal.exp (l n - m) else 0

theorem top_none {s : ℕ} (h : ∀ n < s, ¬hit n) : top hit l s = ⊥ := by
  unfold top
  refine le_bot_iff.mp (Finset.sup_le fun n hn => ?_)
  rw [if_neg (h n (Finset.mem_range.mp hn))]

theorem top_le {s n : ℕ} (hn : n < s) (h : hit n) : l n ≤ top hit l s := by
  have := Finset.le_sup (f := fun n => if hit n then l n else ⊥) (Finset.mem_range.mpr hn)
  simp only [h, if_true] at this; exact this

theorem top_real (hl : ∀ n, hit n → ∃ r : ℝ, l n = r) {s n : ℕ} (hn : n < s) (h : hit n) : ∃ r : ℝ, top hit l s = r := by
  have hbot : top hit l s ≠ ⊥ := fun e => by
    have := top_le hit l hn h
    obtain ⟨r, hr⟩ := hl n h
    rw [e, hr] at this
    exact absurd (le_bot_iff.mp this) (EReal.coe_ne_bot r)
  have htop : top hit l s ≠ ⊤ := by
    refine ne_of_lt ((Finset.sup_lt_iff bot_lt_top).mpr fun k hk => ?_)
    by_cases hh : hit k
    · obtain ⟨r, hr⟩ := hl k hh
      simp only [hh, if_true, hr]; exact EReal.coe_lt_top r
    · simp only [hh, if_false]; exact bot_lt_top
  exact ⟨(top hit l s).toReal, (EReal.coe_toReal htop hbot).symm⟩

/-- The largest over the first `s` nodes and the next `B`. -/
theorem top_add (s B : ℕ) :
    top hit l (s + B) = max (top hit l s) ((Finset.univ : Finset (Fin B)).sup fun r => if hit (s + r.val) then l (s + r.val) else ⊥) := by
  apply le_antisymm
  · refine Finset.sup_le fun n hn => ?_
    have hn := Finset.mem_range.mp hn
    by_cases h : n < s
    · exact le_max_of_le_left (Finset.le_sup (f := fun n => if hit n then l n else ⊥) (Finset.mem_range.mpr h))
    · refine le_max_of_le_right ?_
      have := Finset.le_sup (f := fun r : Fin B => if hit (s + r.val) then l (s + r.val) else ⊥) (Finset.mem_univ ⟨n - s, by omega⟩)
      have e : s + (n - s) = n := by omega
      simp only [e] at this; exact this
  · refine max_le ?_ (Finset.sup_le fun r _ => ?_)
    · exact Finset.sup_mono (Finset.range_mono (Nat.le_add_right s B))
    · exact Finset.le_sup (f := fun n => if hit n then l n else ⊥) (Finset.mem_range.mpr (by have := r.isLt; omega))

/-- Weighing the same nodes against a later largest logit is one factor on the sum. -/
theorem wsum_rescale (hl : ∀ n, hit n → ∃ r : ℝ, l n = r) (s s' : ℕ) (hs : s ≤ s') :
    wsum hit l P (top hit l s) s * Ideal.exp (top hit l s - top hit l s') = wsum hit l P (top hit l s') s := by
  by_cases h : ∃ n < s, hit n
  · obtain ⟨n, hn, hh⟩ := h
    obtain ⟨a, ha⟩ := top_real hit l hl hn hh
    obtain ⟨b, hb⟩ := top_real hit l hl (lt_of_lt_of_le hn hs) hh
    unfold wsum
    rw [ha, hb, sum_mul_real _ _ _ (by rw [← EReal.coe_sub, exp_coe]; exact EReal.coe_nonneg.mpr (Real.exp_pos _).le)
      (by rw [← EReal.coe_sub, exp_coe]; exact EReal.coe_ne_top _)]
    refine Finset.sum_congr rfl fun k _ => ?_
    by_cases hk : hit k
    · obtain ⟨r, hr⟩ := hl k hk
      simp only [hk, if_true, hr]; rw [mul_assoc, exp_split]
    · simp only [hk, if_false, zero_mul]
  · have h' : ∀ n ∈ Finset.range s, ¬hit n := fun n hn e => h ⟨n, Finset.mem_range.mp hn, e⟩
    unfold wsum
    rw [Finset.sum_eq_zero fun n hn => if_neg (h' n hn), Finset.sum_eq_zero fun n hn => if_neg (h' n hn), zero_mul]

/-- One block of `B` nodes. -/
theorem wsum_add (hl : ∀ n, hit n → ∃ r : ℝ, l n = r) (s B : ℕ) :
    wsum hit l P (top hit l (s + B)) (s + B)
      = wsum hit l P (top hit l s) s * Ideal.exp (top hit l s - top hit l (s + B))
        + ∑ r : Fin B, if hit (s + r.val) then P (s + r.val) * Ideal.exp (l (s + r.val) - top hit l (s + B)) else 0 := by
  rw [wsum_rescale hit l P hl s (s + B) (Nat.le_add_right s B)]
  unfold wsum
  rw [Finset.sum_range_add, ← Finset.sum_range (fun r => if hit (s + r) then P (s + r) * Ideal.exp (l (s + r) - top hit l (s + B)) else 0)]

/-- Dividing the weighted sums by the weights' sum gives the softmax sums: the weights taken against the group's
    largest logit (zero for an empty group), each divided by their sum first. -/
theorem wsum_div (hl : ∀ n, hit n → ∃ r : ℝ, l n = r) (s : ℕ) (m d : EReal)
    (hm : ∀ r : ℝ, top hit l s = r → m = r) (hd : d = ∑ n ∈ Finset.range s, if hit n then Ideal.exp (l n - m) else 0) :
    wsum hit l P (top hit l s) s
        * (if 0 < wsum hit l (fun _ => 1) (top hit l s) s then Ideal.div 1 (wsum hit l (fun _ => 1) (top hit l s) s) else 0)
      = ∑ n ∈ Finset.range s, if hit n then Ideal.div (Ideal.exp (l n - m)) d * P n else 0 := by
  by_cases h : ∃ n < s, hit n
  · obtain ⟨n, hn, hh⟩ := h
    obtain ⟨a, ha⟩ := top_real hit l hl hn hh
    have hma : m = a := hm a ha
    have e1 : wsum hit l (fun _ => 1) (top hit l s) s = d := by
      rw [hd, hma, ha]; unfold wsum; simp only [one_mul]
    have hpos : 0 < d := by
      rw [hd]
      have hk : ∀ k ∈ Finset.range s, (0 : EReal) ≤ if hit k then Ideal.exp (l k - m) else 0 := fun k _ => by
        by_cases hk : hit k
        · obtain ⟨r, hr⟩ := hl k hk
          simp only [hk, if_true, hr, hma]
          rw [← EReal.coe_sub, exp_coe]; exact EReal.coe_nonneg.mpr (Real.exp_pos _).le
        · simp only [hk, if_false]; exact le_refl _
      refine lt_of_lt_of_le ?_ (Finset.single_le_sum hk (Finset.mem_range.mpr hn))
      obtain ⟨r, hr⟩ := hl n hh
      simp only [hh, if_true, hr, hma]
      rw [← EReal.coe_sub, exp_coe]; exact EReal.coe_pos.mpr (Real.exp_pos _)
    obtain ⟨q, hq⟩ : ∃ q : ℝ, d = q := by
      rw [hd]
      refine sum_real _ _ fun k _ => ?_
      by_cases hk : hit k
      · obtain ⟨r, hr⟩ := hl k hk
        exact ⟨Real.exp (r - a), by simp only [hk, if_true, hr, hma]; rw [← EReal.coe_sub, exp_coe]⟩
      · exact ⟨0, by simp only [hk, if_false]; rfl⟩
    have hq0 : 0 < q := by rw [hq] at hpos; exact EReal.coe_pos.mp hpos
    have hne : d ≠ 0 := ne_of_gt hpos
    rw [e1, if_pos hpos]
    have hinv : Ideal.div 1 d = ((q⁻¹ : ℝ) : EReal) := by
      unfold Ideal.div; rw [if_neg hne, one_mul, hq]; exact (EReal.coe_inv q).symm
    rw [hinv]
    unfold wsum
    rw [sum_mul_real _ _ _ (EReal.coe_nonneg.mpr (inv_nonneg.mpr hq0.le)) (EReal.coe_ne_top _)]
    refine Finset.sum_congr rfl fun k _ => ?_
    by_cases hk : hit k
    · simp only [hk, if_true]
      unfold Ideal.div; rw [if_neg hne, ha, hma, show d⁻¹ = ((q⁻¹ : ℝ) : EReal) from by rw [hq]; exact (EReal.coe_inv q).symm]
      ac_rfl
    · simp only [hk, if_false, zero_mul]
  · have h' : ∀ n ∈ Finset.range s, ¬hit n := fun n hn e => h ⟨n, Finset.mem_range.mp hn, e⟩
    rw [Finset.sum_eq_zero fun n hn => if_neg (h' n hn)]
    unfold wsum
    rw [Finset.sum_eq_zero fun n hn => if_neg (h' n hn), zero_mul]

end Group

end Cert.Fold

end
-- ==== Proof.Model.lean ====
/- One node's way through the layer normalization, the first linear map, the gate and the logit, as functions of its
   features. -/
module

public import proofs.«01_k».proof.Proof.Fold

@[expose] public section

noncomputable section

namespace Cert.Model

open Idealize.ShloMosaic

/-- The sigmoid, and `x` times it. -/
def sigm (x : EReal) : EReal := Ideal.div 1 (1 + Ideal.exp (-x))
def silu (x : EReal) : EReal := x * sigm x

/-- A node's features by degree: scalars, vectors, degree-two components. -/
structure Row where
  x0 : Fin 128 → EReal
  x1 : Fin 64 → Fin 3 → EReal
  x2 : Fin 32 → Fin 5 → EReal

/-- The weights of a linear map followed by the gate. -/
structure Lin where
  W0 : Fin 128 → Fin 224 → EReal
  W1 : Fin 64 → Fin 64 → EReal
  W2 : Fin 32 → Fin 32 → EReal
  b : Fin 224 → EReal

abbrev c128 : EReal := Ideal.ofBits .f32 0x43000000#32
abbrev c64 : EReal := Ideal.ofBits .f32 0x42800000#32
abbrev c32 : EReal := Ideal.ofBits .f32 0x42000000#32
abbrev ceps : EReal := Ideal.ofBits .f32 0x3727C5AC#32
abbrev q128 : EReal := Ideal.ofBits .f32 0x413504F3#32
abbrev q64 : EReal := Ideal.ofBits .f32 0x41000000#32
abbrev q32 : EReal := Ideal.ofBits .f32 0x40B504F3#32

namespace Row
variable (X : Row) (A : Lin)

def mean : EReal := Ideal.div (∑ k, X.x0 k) c128
def cen (k : Fin 128) : EReal := X.x0 k - X.mean
/-- The layer normalization. -/
def norm : Row where
  x0 k := X.cen k * Ideal.rsqrt (Ideal.div (∑ k, X.cen k * X.cen k) c128 + ceps)
  x1 m d := X.x1 m d * Ideal.rsqrt (Ideal.div (∑ m, ∑ d, X.x1 m d * X.x1 m d) c64 + ceps)
  x2 m d := X.x2 m d * Ideal.rsqrt (Ideal.div (∑ m, ∑ d, X.x2 m d * X.x2 m d) c32 + ceps)
def o0 (j : Fin 224) : EReal := Ideal.div (∑ k, X.x0 k * A.W0 k j) q128 + A.b j
def o1 (j : Fin 64) (d : Fin 3) : EReal := Ideal.div (∑ m, X.x1 m d * A.W1 m j) q64
def o2 (j : Fin 32) (d : Fin 5) : EReal := Ideal.div (∑ m, X.x2 m d * A.W2 m j) q32
/-- The linear map and the gate. -/
def gate : Row where
  x0 k := silu (X.o0 A ⟨k.val, by omega⟩)
  x1 j d := X.o1 A j d * sigm (X.o0 A ⟨128 + j.val, by omega⟩)
  x2 j d := X.o2 A j d * sigm (X.o0 A ⟨192 + j.val, by omega⟩)
/-- The logit of the scalars. -/
def logit (wl : Fin 128 → EReal) (bl : EReal) : EReal := Ideal.div (∑ k, X.x0 k * wl k) q128 + bl
/-- The row with its degrees two and one laid out component by component, and a position and a one after it. -/
def flat (p : Fin 3 → EReal) (j : Fin 484) : EReal :=
  if h0 : j.val < 128 then X.x0 ⟨j.val, h0⟩
  else if h1 : j.val < 320 then X.x1 ⟨(j.val - 128) % 64, Nat.mod_lt _ (by norm_num)⟩ ⟨(j.val - 128) / 64, by omega⟩
  else if h2 : j.val < 480 then X.x2 ⟨(j.val - 320) % 32, Nat.mod_lt _ (by norm_num)⟩ ⟨(j.val - 320) / 32, by omega⟩
  else if h3 : j.val < 483 then p ⟨j.val - 480, by omega⟩ else 1

end Row

/-! ## The logit is a real number when the weights on its way are -/

theorem c128_eq : c128 = ((128 : ℝ) : EReal) := by simp [c128, Ideal.ofBits, Ideal.ieee, -EReal.coe_mul]; norm_num
theorem ceps_pos : ∃ r : ℝ, 0 < r ∧ ceps = r := by
  refine ⟨10995116 * 2 ^ (-40 : ℤ), by positivity, ?_⟩
  simp [ceps, Ideal.ofBits, Ideal.ieee, -EReal.coe_mul]
theorem q128_pos : ∃ r : ℝ, 0 < r ∧ q128 = r := by
  refine ⟨11863283 * 2 ^ (-20 : ℤ), by positivity, ?_⟩
  simp [q128, Ideal.ofBits, Ideal.ieee, -EReal.coe_mul]

theorem div_real {a b : EReal} {x y : ℝ} (ha : a = x) (hb : b = y) (hy : y ≠ 0) : Ideal.div a b = ((x * y⁻¹ : ℝ) : EReal) := by
  unfold Ideal.div
  rw [if_neg (by rw [hb]; exact_mod_cast hy), ha, hb, ← EReal.coe_inv, ← EReal.coe_mul]

theorem sigm_real (x : ℝ) : ∃ r : ℝ, sigm x = r := by
  refine ⟨_, div_real (x := 1) (y := 1 + Real.exp (-x)) rfl ?_ (by positivity)⟩
  rw [← EReal.coe_neg, Fold.exp_coe, EReal.coe_add]; rfl

/-- A sum of squares is real or `⊤`, and real only if every term is. -/
theorem cen_sq (f : Fin 128 → EReal) : (∃ k, f k = ⊥ ∨ f k = ⊤) → ∑ k, f k * f k = ⊤ := by
  rintro ⟨k, hk⟩
  have h0 : ∀ j ∈ Finset.univ, (0 : EReal) ≤ f j * f j := fun j _ => by
    induction f j with
    | bot => simp
    | top => simp
    | coe r => rw [← EReal.coe_mul]; exact EReal.coe_nonneg.mpr (mul_self_nonneg r)
  have h1 : f k * f k = ⊤ := by rcases hk with e | e <;> rw [e] <;> rfl
  exact top_le_iff.mp (h1 ▸ Finset.single_le_sum h0 (Finset.mem_univ k))

theorem norm_real (X : Row) (k : Fin 128) : ∃ r : ℝ, X.norm.x0 k = r := by
  obtain ⟨e, he, hce⟩ := ceps_pos
  by_cases h : ∃ k, X.cen k = ⊥ ∨ X.cen k = ⊤
  · refine ⟨0, ?_⟩
    unfold Row.norm; dsimp only
    rw [cen_sq X.cen h]
    have : Ideal.div ⊤ c128 + ceps = ⊤ := by
      unfold Ideal.div
      rw [c128_eq, if_neg (by norm_num), ← EReal.coe_inv, EReal.top_mul_coe_of_pos (by norm_num), hce]; rfl
    rw [this]; show X.cen k * 0 = _; rw [mul_zero]; rfl
  · have hr : ∀ k, ∃ r : ℝ, X.cen k = r := fun k => by
      have hb : X.cen k ≠ ⊥ := fun e => h ⟨k, Or.inl e⟩
      have ht : X.cen k ≠ ⊤ := fun e => h ⟨k, Or.inr e⟩
      exact ⟨(X.cen k).toReal, (EReal.coe_toReal ht hb).symm⟩
    choose c hc using hr
    have hs : ∑ k, X.cen k * X.cen k = ((∑ k, c k * c k : ℝ) : EReal) := by
      rw [Fold.sum_coe]; exact Finset.sum_congr rfl fun k _ => by rw [hc, EReal.coe_mul]
    unfold Row.norm; dsimp only
    rw [div_real hs c128_eq (by norm_num), hce, ← EReal.coe_add, hc]
    have hp : 0 < (∑ k, c k * c k) * (128 : ℝ)⁻¹ + e :=
      add_pos_of_nonneg_of_pos (mul_nonneg (Finset.sum_nonneg fun k _ => mul_self_nonneg (c k)) (by norm_num)) he
    generalize (∑ k, c k * c k) * (128 : ℝ)⁻¹ + e = q at hp
    refine ⟨c k * (Real.sqrt q)⁻¹, ?_⟩
    show (c k : EReal) * (if q < 0 then (⊥ : EReal) else if q = 0 then (⊤ : EReal) else (((Real.sqrt q)⁻¹ : ℝ) : EReal)) = _
    rw [if_neg (not_lt.mpr hp.le), if_neg hp.ne', EReal.coe_mul]

theorem logit_real (X : Row) (A : Lin) (wl : Fin 128 → EReal) (bl : EReal) (hW : ∀ k (j : Fin 128), ∃ r : ℝ, A.W0 k ⟨j.val, by omega⟩ = r)
    (hb : ∀ j : Fin 128, ∃ r : ℝ, A.b ⟨j.val, by omega⟩ = r) (hl : ∀ k, ∃ r : ℝ, wl k = r) (hbl : ∃ r : ℝ, bl = r) :
    ∃ r : ℝ, (X.norm.gate A).logit wl bl = r := by
  obtain ⟨q, hq, hqe⟩ := q128_pos
  have hdot : ∀ (f g : Fin 128 → EReal), (∀ k, ∃ r : ℝ, f k = r) → (∀ k, ∃ r : ℝ, g k = r) → ∀ b : EReal, (∃ r : ℝ, b = r) →
      ∃ r : ℝ, Ideal.div (∑ k, f k * g k) q128 + b = r := fun f g hf hg b hb => by
    obtain ⟨s, hs⟩ := Fold.sum_real Finset.univ (fun k => f k * g k) fun k _ => by
      obtain ⟨x, hx⟩ := hf k
      obtain ⟨y, hy⟩ := hg k
      exact ⟨x * y, by rw [hx, hy, EReal.coe_mul]⟩
    obtain ⟨z, hz⟩ := hb
    exact ⟨s * q⁻¹ + z, by rw [div_real hs hqe hq.ne', hz, EReal.coe_add]⟩
  refine hdot _ _ (fun k => ?_) hl _ hbl
  obtain ⟨o, ho⟩ := hdot X.norm.x0 (fun k' => A.W0 k' ⟨k.val, by omega⟩) (norm_real X) (fun k' => hW k' k) _ (hb k)
  obtain ⟨g, hg⟩ := sigm_real o
  refine ⟨o * g, ?_⟩
  unfold Row.gate silu Row.o0; dsimp only
  rw [ho, hg, EReal.coe_mul]

end Cert.Model

end
-- ==== Proof.KernelRow.lean ====
/- One block of the node kernel, read row by row: the one-hot products pick a row's graph, and each row goes through
   the layer normalization, the linear map and the gate. -/
module

public import proofs.«01_k».proof.Proof.NodeStep
public import proofs.«01_k».proof.Proof.Model
public import Idealize.ShloMosaic.Lib.Pointwise

@[expose] public section

set_option maxRecDepth 16384

noncomputable section

namespace Cert.KernelRow

open Idealize.ShloMosaic Cert.KernelIdeal Cert.KernelIdeal.Gen Cert.Model

/-- A sum against a one-hot row picks one term. -/
theorem sum_pick {n : ℕ} (f : Fin n → EReal) (i : Fin n) : ∑ x, f x * (if x = i then (1 : EReal) else 0) = f i := by
  simp
theorem pick_sum {n : ℕ} (f : Fin n → EReal) (i : Fin n) : ∑ x, (if x = i then (1 : EReal) else 0) * f x = f i := by
  simp

/-- A comparison bit made a float. -/
theorem bit_float (b : Bool) : (FloatOps.sitofp (F := Ideal) FTy.f32 (BitVec.setWidth 32 (BitVec.ofBool b))) = if b then (1 : EReal) else 0 := by
  cases b
  · show ((((0 : BitVec 32).toInt : ℤ) : ℝ) : EReal) = 0
    simp
  · show ((((1 : BitVec 32).toInt : ℤ) : ℝ) : EReal) = 1
    simp

theorem graph_eq (x g : Fin 512) : (BitVec.ofNat 32 g.val == BitVec.ofNat 32 x.val) = decide (x = g) := by
  rw [Bool.eq_iff_iff, beq_iff_eq, decide_eq_true_iff]
  constructor
  · intro h
    have := congrArg BitVec.toNat h
    simp only [BitVec.toNat_ofNat] at this
    apply Fin.ext; omega
  · rintro rfl; rfl

/-- What the launch says of a block's constant tables. -/
structure Tables (X : Ins Ideal) : Prop where
  p3 : ∀ k j : Fin 192, X.p3 (ix2 k j) = if k = ⟨3 * (j.val % 64) + j.val / 64, by omega⟩ then 1 else 0
  p5 : ∀ k j : Fin 160, X.p5 (ix2 k j) = if k = ⟨5 * (j.val % 32) + j.val / 32, by omega⟩ then 1 else 0

variable (X : Ins Ideal) (S : Scr Ideal) (r : Fin 2000) (g : Fin 512)

/-- A row's features with its graph's features added. -/
def rowOf : Row where
  x0 k := X.nf (ix2 r ⟨k.val, by omega⟩) + S.b0 (ix2 g k)
  x1 m d := X.nf (ix2 r ⟨128 + (3 * m.val + d.val), by omega⟩) + S.b1 (ix2 g ⟨64 * d.val + m.val, by omega⟩)
  x2 m d := X.nf (ix2 r ⟨320 + (5 * m.val + d.val), by omega⟩) + S.b2 (ix2 g ⟨32 * d.val + m.val, by omega⟩)
def linOf : Lin := ⟨fun k j => X.w0 (ix2 k j), fun k j => X.w1 (ix2 k j), fun k j => X.w2 (ix2 k j), fun j => X.bf (ix2 0 j)⟩
def gated : Row := (rowOf X S r g).norm.gate (linOf X)
def lg : EReal := (gated X S r g).logit (fun k => X.wl (ix2 k 0)) (X.bl (ix2 0 0))

/-- The pieces of a row laid out one after another, each weighted. -/
theorem payload_apply (oh : FVec Ideal S2000x512 .f32) (ohT : FVec Ideal S512x2000 .f32) (s : FVec Ideal S2000x128 .f32)
    (a0 a1 a2 : FVec Ideal S2000x64 .f32) (b0 b1 b2 b3 b4 : FVec Ideal S2000x32 .f32) (l : FVec Ideal S2000x1 .f32)
    (bl : Vec Ideal S1x1 .f32) (m : Vec Ideal S512x1 .f32) (p : Vec Ideal S2000x3 .f32) (k : Fin 484) :
    k0_pay43 oh ohT s a0 a1 a2 b0 b1 b2 b3 b4 l bl m p (ix2 r k)
      = Row.flat ⟨fun k => s (ix2 r k), fun m d => (![a0, a1, a2] d) (ix2 r m), fun m d => (![b0, b1, b2, b3, b4] d) (ix2 r m)⟩
          (fun d => p (ix2 r d)) k
        * Ideal.exp (k0_pay40 l bl (ix2 r 0) - ∑ x, oh (ix2 r x) * k0_pay41 ohT l bl m (ix2 x 0)) := by
  pointwise [k0_pay43]
  generalize hw : Ideal.exp (k0_pay40 l bl (ix2 r 0) - ∑ x, oh (ix2 r x) * k0_pay41 ohT l bl m (ix2 x 0)) = w
  obtain ⟨k, hk⟩ := k
  unfold Row.flat
  dsimp only
  have F3 (d : Fin 3) (h1 : (k - 128) / 64 < 3) (e : (k - 128) / 64 = d.val) : (⟨(k - 128) / 64, h1⟩ : Fin 3) = d := Fin.ext e
  have F5 (d : Fin 5) (h1 : (k - 320) / 32 < 5) (e : (k - 320) / 32 = d.val) : (⟨(k - 320) / 32, h1⟩ : Fin 5) = d := Fin.ext e
  by_cases h0 : k < 128
  · simp only [h0, dif_pos]
  by_cases h1 : k - 128 < 64
  · have e : (k - 128) % 64 = k - 128 := by omega
    have h : k < 320 := by omega
    simp only [h0, h1, h, dif_pos, dif_neg, not_false_eq_true, e, F3 0 _ (show (k - 128) / 64 = 0 by omega)]; rfl
  by_cases h2 : k - 128 - 64 < 64
  · have e : (k - 128) % 64 = k - 128 - 64 := by omega
    have h : k < 320 := by omega
    simp only [h0, h1, h2, h, dif_pos, dif_neg, not_false_eq_true, e, F3 1 _ (show (k - 128) / 64 = 1 by omega)]; rfl
  by_cases h3 : k - 128 - 64 - 64 < 64
  · have e : (k - 128) % 64 = k - 128 - 64 - 64 := by omega
    have h : k < 320 := by omega
    simp only [h0, h1, h2, h3, h, dif_pos, dif_neg, not_false_eq_true, e, F3 2 _ (show (k - 128) / 64 = 2 by omega)]; rfl
  have n1 : ¬k < 320 := by omega
  by_cases h4 : k - 128 - 64 - 64 - 64 < 32
  · have e : (k - 320) % 32 = k - 128 - 64 - 64 - 64 := by omega
    have h : k < 480 := by omega
    simp only [h0, h1, h2, h3, h4, n1, h, dif_pos, dif_neg, not_false_eq_true, e, F5 0 _ (show (k - 320) / 32 = 0 by omega)]; rfl
  by_cases h5 : k - 128 - 64 - 64 - 64 - 32 < 32
  · have e : (k - 320) % 32 = k - 128 - 64 - 64 - 64 - 32 := by omega
    have h : k < 480 := by omega
    simp only [h0, h1, h2, h3, h4, h5, n1, h, dif_pos, dif_neg, not_false_eq_true, e, F5 1 _ (show (k - 320) / 32 = 1 by omega)]; rfl
  by_cases h6 : k - 128 - 64 - 64 - 64 - 32 - 32 < 32
  · have e : (k - 320) % 32 = k - 128 - 64 - 64 - 64 - 32 - 32 := by omega
    have h : k < 480 := by omega
    simp only [h0, h1, h2, h3, h4, h5, h6, n1, h, dif_pos, dif_neg, not_false_eq_true, e, F5 2 _ (show (k - 320) / 32 = 2 by omega)]; rfl
  by_cases h7 : k - 128 - 64 - 64 - 64 - 32 - 32 - 32 < 32
  · have e : (k - 320) % 32 = k - 128 - 64 - 64 - 64 - 32 - 32 - 32 := by omega
    have h : k < 480 := by omega
    simp only [h0, h1, h2, h3, h4, h5, h6, h7, n1, h, dif_pos, dif_neg, not_false_eq_true, e, F5 3 _ (show (k - 320) / 32 = 3 by omega)]; rfl
  by_cases h8 : k - 128 - 64 - 64 - 64 - 32 - 32 - 32 - 32 < 32
  · have e : (k - 320) % 32 = k - 128 - 64 - 64 - 64 - 32 - 32 - 32 - 32 := by omega
    have h : k < 480 := by omega
    simp only [h0, h1, h2, h3, h4, h5, h6, h7, h8, n1, h, dif_pos, dif_neg, not_false_eq_true, e, F5 4 _ (show (k - 320) / 32 = 4 by omega)]; rfl
  have n2 : ¬k < 480 := by omega
  by_cases h9 : k - 128 - 64 - 64 - 64 - 32 - 32 - 32 - 32 - 32 < 3
  · have e : k - 480 = k - 128 - 64 - 64 - 64 - 32 - 32 - 32 - 32 - 32 := by omega
    have h : k < 483 := by omega
    simp only [h0, h1, h2, h3, h4, h5, h6, h7, h8, h9, n1, n2, h, dif_pos, dif_neg, not_false_eq_true, e]
  · have n3 : ¬k < 483 := by omega
    simp only [h0, h1, h2, h3, h4, h5, h6, h7, h8, h9, n1, n2, n3, dif_neg, not_false_eq_true, one_mul]
    rw [← hw]
    have z (q : ℕ) (h : q < 1) : (⟨q, h⟩ : Fin 1) = 0 := Subsingleton.elim _ _
    simp only [z]

section row
variable (hb : X.bcol (ix2 r 0) = BitVec.ofNat 32 g.val) (hT : Tables X)
include hb

theorem hot_apply (x : Fin 512) : k0_pay11 X.bcol (ix2 r x) = if x = g then (1 : EReal) else 0 := by
  pointwise [k0_pay11]
  rw [hb]; show FloatOps.sitofp FTy.f32 (BitVec.setWidth 32 (BitVec.ofBool (BitVec.ofNat 32 g.val == BitVec.ofNat 32 x.val))) = _
  rw [graph_eq, bit_float]; simp

theorem x0_raw (k : Fin 128) : k0_pay13 X.bcol X.nf S.b0 (ix2 r k) = (rowOf X S r g).x0 k := by
  pointwise [k0_pay13]
  simp only [hot_apply X r g hb, pick_sum]; rfl

include hT

theorem x1_raw (m : Fin 64) (d : Fin 3) :
    k0_pay15 X.bcol X.nf X.p3 S.b1 (ix2 r ⟨64 * d.val + m.val, by omega⟩) = (rowOf X S r g).x1 m d := by
  pointwise [k0_pay15]
  simp only [hot_apply X r g hb, pick_sum, hT.p3, sum_pick]
  have e : 3 * ((64 * d.val + m.val) % 64) + (64 * d.val + m.val) / 64 = 3 * m.val + d.val := by omega
  simp only [e]; rfl

theorem x2_raw (m : Fin 32) (d : Fin 5) :
    X.deg2 S (ix2 r ⟨32 * d.val + m.val, by omega⟩) = (rowOf X S r g).x2 m d := by
  unfold Ins.deg2 Ins.hot
  pointwise [k0_pay16, k0_pay14]
  simp only [hot_apply X r g hb, pick_sum, hT.p5, sum_pick]
  have e : 5 * ((32 * d.val + m.val) % 32) + (32 * d.val + m.val) / 32 = 5 * m.val + d.val := by omega
  simp only [e]; rfl

omit hT in
theorem norm0 (k : Fin 128) : k0_pay17 (k0_pay13 X.bcol X.nf S.b0) (ix2 r k) = (rowOf X S r g).norm.x0 k := by
  pointwise [k0_pay17]
  simp only [x0_raw X S r g hb]; rfl

theorem norm1 (m : Fin 64) (d : Fin 3) : X.deg1 S (ix2 r ⟨64 * d.val + m.val, by omega⟩) = (rowOf X S r g).norm.x1 m d := by
  unfold Ins.deg1
  pointwise [k0_pay18]
  have h0 (m : Fin 64) : k0_pay15 X.bcol X.nf X.p3 S.b1 (ix2 r ⟨m.val, by omega⟩) = (rowOf X S r g).x1 m 0 := by
    simpa using x1_raw X S r g hb hT m 0
  have h1 (m : Fin 64) : k0_pay15 X.bcol X.nf X.p3 S.b1 (ix2 r ⟨64 + m.val, by omega⟩) = (rowOf X S r g).x1 m 1 := by
    simpa using x1_raw X S r g hb hT m 1
  have h2 (m : Fin 64) : k0_pay15 X.bcol X.nf X.p3 S.b1 (ix2 r ⟨128 + m.val, by omega⟩) = (rowOf X S r g).x1 m 2 := by
    simpa using x1_raw X S r g hb hT m 2
  simp only [h0, h1, h2, x1_raw X S r g hb hT]
  simp only [Row.norm, Fin.sum_univ_three]

theorem sq2 : X.deg2sq S (ix2 r 0) = ∑ m, ∑ d, (rowOf X S r g).x2 m d * (rowOf X S r g).x2 m d := by
  unfold Ins.deg2sq
  pointwise [k0_pay19]
  have h0 (m : Fin 32) : X.deg2 S (ix2 r ⟨m.val, by omega⟩) = (rowOf X S r g).x2 m 0 := by simpa using x2_raw X S r g hb hT m 0
  have h1 (m : Fin 32) : X.deg2 S (ix2 r ⟨32 + m.val, by omega⟩) = (rowOf X S r g).x2 m 1 := by simpa using x2_raw X S r g hb hT m 1
  have h2 (m : Fin 32) : X.deg2 S (ix2 r ⟨64 + m.val, by omega⟩) = (rowOf X S r g).x2 m 2 := by simpa using x2_raw X S r g hb hT m 2
  have h3 (m : Fin 32) : X.deg2 S (ix2 r ⟨96 + m.val, by omega⟩) = (rowOf X S r g).x2 m 3 := by simpa using x2_raw X S r g hb hT m 3
  have h4 (m : Fin 32) : X.deg2 S (ix2 r ⟨128 + m.val, by omega⟩) = (rowOf X S r g).x2 m 4 := by simpa using x2_raw X S r g hb hT m 4
  refine Finset.sum_congr rfl fun m _ => ?_
  rw [Fin.sum_univ_five, ← h0, ← h1, ← h2, ← h3, ← h4]; rfl

theorem norm2 (m : Fin 32) (d : Fin 5) :
    k0_pay20 (X.deg2 S) (X.deg2sq S) (ix2 r ⟨32 * d.val + m.val, by omega⟩) = (rowOf X S r g).norm.x2 m d := by
  pointwise [k0_pay20]
  rw [x2_raw X S r g hb hT, sq2 X S r g hb hT]; rfl

omit hT in
theorem mid0_apply (j : Fin 224) : X.mid0 S (ix2 r j) = (rowOf X S r g).norm.o0 (linOf X) j := by
  unfold Ins.mid0
  pointwise [k0_pay21]
  simp only [norm0 X S r g hb]; rfl

omit hT in
theorem gate0 (k : Fin 128) : k0_pay27 (X.mid0 S) (ix2 r k) = (gated X S r g).x0 k := by
  pointwise [k0_pay27]
  simp only [mid0_apply X S r g hb]; rfl

omit hT in
theorem gate_mid (j : Fin 64) : k0_pay29 (X.mid0 S) (ix2 r j) = sigm ((rowOf X S r g).norm.o0 (linOf X) ⟨128 + j.val, by omega⟩) := by
  pointwise [k0_pay29, k0_pay28]
  simp only [mid0_apply X S r g hb]; rfl
omit hT in
theorem gate_low (j : Fin 32) : k0_pay30 (X.mid0 S) (ix2 r j) = sigm ((rowOf X S r g).norm.o0 (linOf X) ⟨192 + j.val, by omega⟩) := by
  pointwise [k0_pay30, k0_pay28]
  simp only [mid0_apply X S r g hb, ← Nat.add_assoc]; rfl

theorem v1_0 (j : Fin 64) : k0_pay31 (X.mid0 S) (k0_pay22 (X.deg1 S) X.w1) (ix2 r j) = (gated X S r g).x1 j 0 := by
  pointwise [k0_pay31, k0_pay22]
  have h (m : Fin 64) : X.deg1 S (ix2 r ⟨m.val, by omega⟩) = (rowOf X S r g).norm.x1 m 0 := by simpa using norm1 X S r g hb hT m 0
  simp only [gate_mid X S r g hb, h]; rfl
theorem v1_1 (j : Fin 64) : k0_pay32 (X.mid0 S) (k0_pay23 (X.deg1 S) X.w1) (ix2 r j) = (gated X S r g).x1 j 1 := by
  pointwise [k0_pay32, k0_pay23]
  have h (m : Fin 64) : X.deg1 S (ix2 r ⟨64 + m.val, by omega⟩) = (rowOf X S r g).norm.x1 m 1 := by simpa using norm1 X S r g hb hT m 1
  simp only [gate_mid X S r g hb, h]; rfl
theorem v1_2 (j : Fin 64) : k0_pay33 (X.mid0 S) (k0_pay24 (X.deg1 S) X.w1) (ix2 r j) = (gated X S r g).x1 j 2 := by
  pointwise [k0_pay33, k0_pay24]
  have h (m : Fin 64) : X.deg1 S (ix2 r ⟨128 + m.val, by omega⟩) = (rowOf X S r g).norm.x1 m 2 := by simpa using norm1 X S r g hb hT m 2
  simp only [gate_mid X S r g hb, h]; rfl

theorem v2_0 (j : Fin 32) : k0_pay34 (X.mid0 S) (k0_pay25 (X.deg2 S) (X.deg2sq S) X.w2) (ix2 r j) = (gated X S r g).x2 j 0 := by
  pointwise [k0_pay34, k0_pay25]
  have h (m : Fin 32) : k0_pay20 (X.deg2 S) (X.deg2sq S) (ix2 r ⟨m.val, by omega⟩) = (rowOf X S r g).norm.x2 m 0 := by simpa using norm2 X S r g hb hT m 0
  simp only [gate_low X S r g hb, h]; rfl
theorem v2_1 (j : Fin 32) : k0_pay35 (X.mid0 S) (k0_pay26 (X.deg2 S) (X.deg2sq S)) X.w2 (ix2 r j) = (gated X S r g).x2 j 1 := by
  pointwise [k0_pay35, k0_pay26]
  have h (m : Fin 32) : k0_pay20 (X.deg2 S) (X.deg2sq S) (ix2 r ⟨32 + m.val, by omega⟩) = (rowOf X S r g).norm.x2 m 1 := by simpa using norm2 X S r g hb hT m 1
  simp only [gate_low X S r g hb, h]; rfl
theorem v2_2 (j : Fin 32) : k0_pay36 (k0_pay20 (X.deg2 S) (X.deg2sq S)) (X.mid0 S) X.w2 (ix2 r j) = (gated X S r g).x2 j 2 := by
  pointwise [k0_pay36]
  have h (m : Fin 32) : k0_pay20 (X.deg2 S) (X.deg2sq S) (ix2 r ⟨64 + m.val, by omega⟩) = (rowOf X S r g).norm.x2 m 2 := by simpa using norm2 X S r g hb hT m 2
  simp only [gate_low X S r g hb, h]; rfl
theorem v2_3 (j : Fin 32) : k0_pay37 (k0_pay20 (X.deg2 S) (X.deg2sq S)) (X.mid0 S) X.w2 (ix2 r j) = (gated X S r g).x2 j 3 := by
  pointwise [k0_pay37]
  have h (m : Fin 32) : k0_pay20 (X.deg2 S) (X.deg2sq S) (ix2 r ⟨96 + m.val, by omega⟩) = (rowOf X S r g).norm.x2 m 3 := by simpa using norm2 X S r g hb hT m 3
  simp only [gate_low X S r g hb, h]; rfl
theorem v2_4 (j : Fin 32) : k0_pay38 (k0_pay20 (X.deg2 S) (X.deg2sq S)) (X.mid0 S) X.w2 (ix2 r j) = (gated X S r g).x2 j 4 := by
  pointwise [k0_pay38]
  have h (m : Fin 32) : k0_pay20 (X.deg2 S) (X.deg2sq S) (ix2 r ⟨128 + m.val, by omega⟩) = (rowOf X S r g).norm.x2 m 4 := by simpa using norm2 X S r g hb hT m 4
  simp only [gate_low X S r g hb, h]; rfl

omit hT in
theorem logit_apply : k0_pay40 (X.logit0 S) X.bl (ix2 r 0) = lg X S r g := by
  unfold Ins.logit0
  pointwise [k0_pay40, k0_pay39]
  simp only [gate0 X S r g hb]; rfl

/-- The rows a block adds into the weighted sums. -/
theorem rows_apply (j : Fin 484) :
    X.rows S (ix2 r j) = (gated X S r g).flat (fun d => X.pos (ix2 r d)) j
      * Ideal.exp (lg X S r g - k0_pay41 X.hotT (X.logit0 S) X.bl S.mx (ix2 g 0)) := by
  unfold Ins.rows
  rw [payload_apply, logit_apply X S r g hb]
  congr 1
  · congr 1
    have e1 : (fun (m : Fin 64) (d : Fin 3) => (![k0_pay31 (X.mid0 S) (k0_pay22 (X.deg1 S) X.w1), k0_pay32 (X.mid0 S) (k0_pay23 (X.deg1 S) X.w1),
        k0_pay33 (X.mid0 S) (k0_pay24 (X.deg1 S) X.w1)] d) (ix2 r m)) = (gated X S r g).x1 := by
      funext m d
      fin_cases d
      · exact v1_0 X S r g hb hT m
      · exact v1_1 X S r g hb hT m
      · exact v1_2 X S r g hb hT m
    have e2 : (fun (m : Fin 32) (d : Fin 5) => (![k0_pay34 (X.mid0 S) (k0_pay25 (X.deg2 S) (X.deg2sq S) X.w2), k0_pay35 (X.mid0 S) (k0_pay26 (X.deg2 S) (X.deg2sq S)) X.w2,
        k0_pay36 (k0_pay20 (X.deg2 S) (X.deg2sq S)) (X.mid0 S) X.w2, k0_pay37 (k0_pay20 (X.deg2 S) (X.deg2sq S)) (X.mid0 S) X.w2,
        k0_pay38 (k0_pay20 (X.deg2 S) (X.deg2sq S)) (X.mid0 S) X.w2] d) (ix2 r m)) = (gated X S r g).x2 := by
      funext m d
      fin_cases d
      · exact v2_0 X S r g hb hT m
      · exact v2_1 X S r g hb hT m
      · exact v2_2 X S r g hb hT m
      · exact v2_3 X S r g hb hT m
      · exact v2_4 X S r g hb hT m
    rw [e1, e2]
    simp only [gate0 X S r g hb]
  · congr 2
    unfold Ins.hot
    simp only [hot_apply X r g hb, pick_sum]

end row

end Cert.KernelRow

end
-- ==== Proof.NodeFold.lean ====
/- The node kernel's scratch buffers after each block: the running maximum of each graph's logits and the sums weighted
   against it, and the two outputs as softmax sums over the graph's nodes. -/
module

public import proofs.«01_k».proof.Proof.KernelRow

@[expose] public section

set_option maxRecDepth 16384

noncomputable section

namespace Cert.NodeFold

open Idealize.ShloMosaic Cert.KernelIdeal Cert.KernelIdeal.Gen Cert.Model Cert.KernelRow

theorem mask_bot : Named.named (F := Ideal) (φ := .f32) κ "mask" 0xF149F2CA#32 = (⊥ : EReal) :=
  IdealRules.named_const.ideal_named_scalar _ _ _ _ rfl
theorem inf_bot : Ideal.ofBits .f32 0xFF800000#32 = ⊥ := by simp [Ideal.ofBits, Ideal.ieee]

/-- What the input blocks of all grid points are: the nodes' rows, in one numbering. -/
structure Blocks (X : ℕ → Ins Ideal) (b0 : Vec Ideal S512x128 .f32) (b1 : Vec Ideal S512x192 .f32) (b2 : Vec Ideal S512x160 .f32)
    (R : ℕ → Row) (A : Lin) (wl : Fin 128 → EReal) (bl : EReal) (pos : ℕ → Fin 3 → EReal) (bat : ℕ → BitVec 32) : Prop where
  tables : ∀ t < 25, Tables (X t)
  bcol : ∀ t < 25, ∀ r : Fin 2000, (X t).bcol (ix2 r 0) = bat (2000 * t + r.val)
  brow : ∀ t < 25, ∀ r : Fin 2000, (X t).brow (ix3 0 0 r) = bat (2000 * t + r.val)
  row : ∀ t < 25, ∀ (r : Fin 2000) (g : Fin 512) (S : Scr Ideal), bat (2000 * t + r.val) = BitVec.ofNat 32 g.val →
    S.b0 = b0 → S.b1 = b1 → S.b2 = b2 → rowOf (X t) S r g = R (2000 * t + r.val)
  lin : ∀ t < 25, linOf (X t) = A
  wl : ∀ t < 25, ∀ k, (X t).wl (ix2 k 0) = wl k
  bl : ∀ t < 25, (X t).bl (ix2 0 0) = bl
  pos : ∀ t < 25, ∀ (r : Fin 2000) d, (X t).pos (ix2 r d) = pos (2000 * t + r.val) d

/-- A graph's nodes (a node whose number is no graph's is in none), their logits, and what each node contributes to one column. -/
def hit (bat : ℕ → BitVec 32) (g : Fin 512) (n : ℕ) : Prop := bat n = BitVec.ofNat 32 g.val
instance (bat : ℕ → BitVec 32) (g : Fin 512) : DecidablePred (hit bat g) := fun n => inferInstanceAs (Decidable (bat n = BitVec.ofNat 32 g.val))
def lgt (R : ℕ → Row) (A : Lin) (wl : Fin 128 → EReal) (bl : EReal) (n : ℕ) : EReal := ((R n).norm.gate A).logit wl bl
def col (R : ℕ → Row) (A : Lin) (pos : ℕ → Fin 3 → EReal) (j : Fin 484) (n : ℕ) : EReal := ((R n).norm.gate A).flat (pos n) j

section
variable {X : ℕ → Ins Ideal} {b0 : Vec Ideal S512x128 .f32} {b1 : Vec Ideal S512x192 .f32} {b2 : Vec Ideal S512x160 .f32}
  {R : ℕ → Row} {A : Lin} {wl : Fin 128 → EReal} {bl : EReal} {pos : ℕ → Fin 3 → EReal} {bat : ℕ → BitVec 32}

theorem hotT_apply (h : Blocks X b0 b1 b2 R A wl bl pos bat) {t : ℕ} (ht : t < 25) (g : Fin 512) (r : Fin 2000) :
    (X t).hotT (ix2 g r) = if hit bat g (2000 * t + r.val) then (1 : EReal) else 0 := by
  unfold Ins.hotT
  pointwise [k0_pay12]
  rw [h.brow t ht r]
  show FloatOps.sitofp FTy.f32 (BitVec.setWidth 32 (BitVec.ofBool (BitVec.ofNat 32 g.val == bat (2000 * t + r.val)))) = _
  rw [bit_float]
  by_cases hh : bat (2000 * t + r.val) = BitVec.ofNat 32 g.val
  · rw [if_pos (show hit bat g _ from hh), hh, beq_self_eq_true, if_pos rfl]
  · rw [if_neg (show ¬hit bat g _ from hh), beq_eq_false_iff_ne.mpr (Ne.symm hh)]; rfl

/-- The new running maximum of a block. -/
theorem max_apply (h : Blocks X b0 b1 b2 R A wl bl pos bat) {t : ℕ} (ht : t < 25) (g : Fin 512) (S : Scr Ideal)
    (e0 : S.b0 = b0) (e1 : S.b1 = b1) (e2 : S.b2 = b2) :
    k0_pay41 (X t).hotT ((X t).logit0 S) (X t).bl S.mx (ix2 g 0)
      = max (S.mx (ix2 g 0)) ((Finset.univ : Finset (Fin 2000)).sup fun r =>
          if hit bat g (2000 * t + r.val) then lgt R A wl bl (2000 * t + r.val) else ⊥) := by
  pointwise [k0_pay41]
  rw [inf_bot, mask_bot]
  show max _ (Finset.sup Finset.univ _) = _
  congr 2
  funext r
  rw [hotT_apply h ht]
  by_cases hh : hit bat g (2000 * t + r.val)
  · rw [logit_apply (X t) S r g ((h.bcol t ht r).trans hh)]
    unfold lg gated lgt
    rw [h.row t ht r g S hh e0 e1 e2, h.lin t ht, h.bl t ht]
    simp only [h.wl t ht]
    simp [hh]
  · simp [hh]

theorem rows_read (h : Blocks X b0 b1 b2 R A wl bl pos bat) {t : ℕ} (ht : t < 25) (r : Fin 2000) (S : Scr Ideal)
    (e0 : S.b0 = b0) (e1 : S.b1 = b1) (e2 : S.b2 = b2) (j : Fin 484) (g : Fin 512)
    (hg : hit bat g (2000 * t + r.val)) :
    (X t).rows S (ix2 r j) = col R A pos j (2000 * t + r.val)
      * Ideal.exp (lgt R A wl bl (2000 * t + r.val) - k0_pay41 (X t).hotT ((X t).logit0 S) (X t).bl S.mx (ix2 g 0)) := by
  rw [rows_apply (X t) S r g ((h.bcol t ht r).trans hg) (h.tables t ht)]
  unfold lg gated lgt col
  rw [h.row t ht r g S hg e0 e1 e2, h.lin t ht, h.bl t ht]
  simp only [h.wl t ht, h.pos t ht]

/-- The scratch buffers after a number of blocks. -/
structure At (R : ℕ → Row) (A : Lin) (wl : Fin 128 → EReal) (bl : EReal) (pos : ℕ → Fin 3 → EReal) (bat : ℕ → BitVec 32)
    (b0 : Vec Ideal S512x128 .f32) (b1 : Vec Ideal S512x192 .f32) (b2 : Vec Ideal S512x160 .f32) (s : ℕ) (S : Scr Ideal) : Prop where
  b0 : S.b0 = b0
  b1 : S.b1 = b1
  b2 : S.b2 = b2
  mx : ∀ g, S.mx (ix2 g 0) = Fold.top (hit bat g) (lgt R A wl bl) (2000 * s)
  acc : ∀ g j, S.acc (ix2 g j) = Fold.wsum (hit bat g) (lgt R A wl bl) (col R A pos j) (Fold.top (hit bat g) (lgt R A wl bl) (2000 * s)) (2000 * s)

theorem at_step (hl : ∀ n, ∃ r : ℝ, lgt R A wl bl n = r) (h : Blocks X b0 b1 b2 R A wl bl pos bat) {t : ℕ} (ht : t < 25) {S : Scr Ideal}
    (hS : At R A wl bl pos bat b0 b1 b2 t S) : At R A wl bl pos bat b0 b1 b2 (t + 1) ((X t).step S) := by
  have hm : ∀ g, k0_pay41 (X t).hotT ((X t).logit0 S) (X t).bl S.mx (ix2 g 0)
      = Fold.top (hit bat g) (lgt R A wl bl) (2000 * t + 2000) := fun g => by
    rw [max_apply h ht g S hS.b0 hS.b1 hS.b2, hS.mx, Fold.top_add]
  refine ⟨hS.b0, hS.b1, hS.b2, fun g => ?_, fun g j => ?_⟩
  · show k0_pay42 _ _ _ _ _ = _
    pointwise [k0_pay42]
    exact hm g
  · show k0_pay1 _ _ _ _ _ = _
    pointwise [k0_pay1, k0_pay44]
    rw [hm, hS.acc, hS.mx, show 2000 * (t + 1) = 2000 * t + 2000 from rfl, Fold.wsum_add _ _ _ fun n _ => hl n]
    congr 1
    refine Finset.sum_congr rfl fun r _ => ?_
    rw [hotT_apply h ht]
    by_cases hh : hit bat g (2000 * t + r.val)
    · rw [rows_read h ht r S hS.b0 hS.b1 hS.b2 j g hh, hm, if_pos hh, if_pos hh, one_mul]
    · rw [if_neg hh, if_neg hh, zero_mul]

theorem at_zero {S : Scr Ideal} (e0 : S.b0 = b0) (e1 : S.b1 = b1) (e2 : S.b2 = b2) (em : S.mx = k0_pay9 (F := Ideal)) (ea : S.acc = k0_pay10 (F := Ideal)) :
    At R A wl bl pos bat b0 b1 b2 0 S := by
  refine ⟨e0, e1, e2, fun g => ?_, fun g j => ?_⟩
  · rw [em]; pointwise [k0_pay9]; rw [mask_bot]; rfl
  · rw [ea]; pointwise [k0_pay10]; simp [Fold.wsum]

/-- The outputs: the softmax sums of each column. -/
theorem out_div (hl : ∀ n, ∃ r : ℝ, lgt R A wl bl n = r) {S : Scr Ideal} (hS : At R A wl bl pos bat b0 b1 b2 25 S) (g : Fin 512)
    (j : Fin 484) (m d : EReal) (hm : ∀ r : ℝ, Fold.top (hit bat g) (lgt R A wl bl) 50000 = r → m = r)
    (hd : d = ∑ n ∈ Finset.range 50000, if hit bat g n then Ideal.exp (lgt R A wl bl n - m) else 0) :
    S.acc (ix2 g j) * k0_pay2 S.acc (ix2 g 0)
      = ∑ n ∈ Finset.range 50000, if hit bat g n then Ideal.div (Ideal.exp (lgt R A wl bl n - m)) d * col R A pos j n else 0 := by
  rw [← Fold.wsum_div (hit bat g) (lgt R A wl bl) (col R A pos j) (fun n _ => hl n) 50000 m d hm hd]
  have e : S.acc (ix2 g 483) = Fold.wsum (hit bat g) (lgt R A wl bl) (fun _ => 1) (Fold.top (hit bat g) (lgt R A wl bl) 50000) 50000 := by
    rw [hS.acc]; rfl
  have e' : k0_pay2 S.acc (ix2 g 0) = if 0 < S.acc (ix2 g 483) then Ideal.div 1 (S.acc (ix2 g 483)) else 0 := by
    pointwise [k0_pay2]
  rw [e', e, hS.acc]
end

end Cert.NodeFold

end
-- ==== Proof.Spec.lean ====
/- The problem's three results as plain functions of the arguments' entries. -/
module

public import proofs.«01_k».proof.Proof.NodeFold

@[expose] public section

noncomputable section

namespace Cert.Spec

open Idealize.ShloMosaic Cert.Model Cert.NodeFold

/-- The arguments, entry by entry; `key` is each node's graph number as it is given. -/
structure Inp where
  pos : Fin 50000 → Fin 3 → EReal
  nf : Fin 50000 → Fin 480 → EReal
  mnf : Fin 512 → Fin 480 → EReal
  mpos : Fin 512 → Fin 3 → EReal
  key : Fin 50000 → BitVec 32
  tgt : Fin 512 → EReal
  offs : Fin 64 → EReal
  Wt : Fin 64 → Fin 128 → EReal
  bt : Fin 128 → EReal
  A : Lin
  wl : Fin 128 → EReal
  bl : EReal
  A' : Lin
  P0 : Fin 128 → Fin 16 → EReal
  P1 : Fin 64 → Fin 16 → EReal
  P2 : Fin 32 → Fin 16 → EReal
  pb : Fin 16 → EReal
  Y : Fin 9 → Fin 1024 → EReal

/-- The softmax of a row, and the temperature the rows are divided by. -/
def soft (f : Fin 1024 → EReal) (p : Fin 1024) : EReal :=
  Ideal.div (Ideal.exp (f p - Finset.univ.sup f)) (∑ q, Ideal.exp (f q - Finset.univ.sup f))
abbrev temp : EReal := Ideal.ofBits .f32 0x3C23D70A#32

/-- The weights of the second layer. -/
structure Head where
  A : Lin
  P0 : Fin 128 → Fin 16 → EReal
  P1 : Fin 64 → Fin 16 → EReal
  P2 : Fin 32 → Fin 16 → EReal
  pb : Fin 16 → EReal
  Y : Fin 9 → Fin 1024 → EReal

namespace Head
variable (H : Head) (X : Row)

/-- A graph's coefficients in the harmonics, one list of nine per channel. -/
def p0 (c : Fin 16) : EReal := Ideal.div (∑ m, (X.gate H.A).x0 m * H.P0 m c) q128 + H.pb c
def p1 (c : Fin 16) (d : Fin 3) : EReal := Ideal.div (∑ m, (X.gate H.A).x1 m d * H.P1 m c) q64
def p2 (c : Fin 16) (d : Fin 5) : EReal := Ideal.div (∑ m, (X.gate H.A).x2 m d * H.P2 m c) q32
def coef (c : Fin 16) : Fin 9 → EReal :=
  ![H.p0 X c, H.p1 X c 0, H.p1 X c 1, H.p1 X c 2, H.p2 X c 0, H.p2 X c 1, H.p2 X c 2, H.p2 X c 3, H.p2 X c 4]
def grid (c : Fin 16) (p : Fin 1024) : EReal := ∑ k, H.coef X c k * H.Y k p
def pose (p : Fin 1024) : EReal :=
  Ideal.div (Ideal.log (∑ c, Ideal.exp (H.grid X c p - Finset.univ.sup fun c => H.grid X c p))) temp
def res (p : Fin 1024) : EReal := soft (H.pose X) p
end Head

abbrev hc0 : EReal := Ideal.ofBits .f32 1049652923#32
abbrev hc1 : EReal := Ideal.ofBits .f32 1056582172#32
abbrev hc2 : EReal := Ideal.ofBits .f32 1066129569#32
abbrev hc20 : EReal := Ideal.ofBits .f32 1050770177#32
abbrev hc22 : EReal := Ideal.ofBits .f32 1057740961#32
/-- The nine harmonics of a vector. -/
def sh (v : Fin 3 → EReal) : Fin 9 → EReal :=
  ![hc0, hc1 * v 1, hc1 * v 2, hc1 * v 0, hc2 * v 0 * v 1, hc2 * v 1 * v 2,
    hc20 * (Ideal.ofBits .f32 0x40000000#32 * v 2 * v 2 - v 0 * v 0 - v 1 * v 1), hc2 * v 0 * v 2, hc22 * (v 0 * v 0 - v 1 * v 1)]
def len (v : Fin 3 → EReal) : EReal := Ideal.sqrt (v 0 * v 0 + v 1 * v 1 + v 2 * v 2)

namespace Inp
variable (I : Inp)

def head : Head := ⟨I.A', I.P0, I.P1, I.P2, I.pb, I.Y⟩
/-- A graph's scalar from its target. -/
def ts (g : Fin 512) (k : Fin 128) : EReal :=
  Ideal.div (∑ i, Ideal.exp (Ideal.ofBits .f32 0xC19EC28F#32 * (I.tgt g - I.offs i) * (I.tgt g - I.offs i)) * I.Wt i k) q64 + I.bt k
/-- The graph that a node's number names. -/
def bat (n : Fin 50000) : Fin 512 := Fin.ofNat 512 (I.key n).toNat
theorem bat_of {n : Fin 50000} {g : Fin 512} (h : I.key n = BitVec.ofNat 32 g.val) : I.bat n = g := by
  unfold bat
  rw [h]
  have := g.isLt
  refine Fin.ext ?_
  simp only [Fin.val_ofNat, BitVec.toNat_ofNat]
  omega
/-- A node's features with its graph's added. -/
def R (n : ℕ) : Row where
  x0 k := I.nf (Fin.ofNat _ n) ⟨k.val, by omega⟩ + (I.mnf (I.bat (Fin.ofNat _ n)) ⟨k.val, by omega⟩ + silu (I.ts (I.bat (Fin.ofNat _ n)) k))
  x1 m d := I.nf (Fin.ofNat _ n) ⟨128 + (3 * m.val + d.val), by omega⟩ + I.mnf (I.bat (Fin.ofNat _ n)) ⟨128 + (3 * m.val + d.val), by omega⟩
  x2 m d := I.nf (Fin.ofNat _ n) ⟨320 + (5 * m.val + d.val), by omega⟩ + I.mnf (I.bat (Fin.ofNat _ n)) ⟨320 + (5 * m.val + d.val), by omega⟩
def b (n : ℕ) : BitVec 32 := I.key (Fin.ofNat _ n)
def l (n : ℕ) : EReal := lgt I.R I.A I.wl I.bl n
def c (j : Fin 484) (n : ℕ) : EReal := col I.R I.A (fun n => I.pos (Fin.ofNat _ n)) j n
/-- A graph's maximal logit, or zero where there is none, and the sum of the exponentials against it. -/
def top (g : Fin 512) : EReal := Fold.top (hit I.b g) I.l 50000
def m (g : Fin 512) : EReal := if max (I.top g) (-I.top g) < ⊤ then I.top g else 0
def den (g : Fin 512) : EReal := ∑ n ∈ Finset.range 50000, if hit I.b g n then Ideal.exp (I.l n - I.m g) else 0
/-- A graph's softmax sum of one column. -/
def sum (g : Fin 512) (j : Fin 484) : EReal :=
  ∑ n ∈ Finset.range 50000, if hit I.b g n then Ideal.div (Ideal.exp (I.l n - I.m g)) (I.den g) * I.c j n else 0
def G (g : Fin 512) : Row where
  x0 k := I.sum g ⟨k.val, by omega⟩
  x1 m d := I.sum g ⟨128 + (64 * d.val + m.val), by omega⟩
  x2 m d := I.sum g ⟨320 + (32 * d.val + m.val), by omega⟩
def ctr (g : Fin 512) (d : Fin 3) : EReal := I.sum g ⟨480 + d.val, by omega⟩

/-- The three results. -/
def dist (g : Fin 512) (p : Fin 1024) : EReal := I.head.res (I.G g) p
def away (g : Fin 512) (d : Fin 3) : EReal := I.mpos g d - I.ctr g d
def label (g : Fin 512) (p : Fin 1024) : EReal := soft (fun p => Ideal.div (∑ k, sh (I.away g) k * I.Y k p) temp) p
def length (g : Fin 512) : EReal := len (I.away g)

end Inp

end Cert.Spec

end
-- ==== Proof.NodeIn.lean ====
/- The node kernel's input blocks as entries of the arrays they are cut from. -/
module
public import proofs.«01_k».proof.Proof.WholeRun
public import proofs.«01_k».proof.Proof.Spec
public import Idealize.ShloMosaic.Lib.Pipeline.ValueKit
public import Idealize.ShloMosaic.Lib.Claim
@[expose] public section
set_option maxRecDepth 16384
noncomputable section
namespace Cert.KernelIdeal.Gen
open Idealize.ShloMosaic Idealize.ShloMosaic.TcCoe Idealize.ShloMosaic.Pipeline

section
variable (V : (c : Dev nD) → (b : Ref sig .tc) → Buf (Elt Ideal) ((c : Thread nD τ).loc b)) (c : Dev nD) {t : ℕ} (ht : t < 25)

theorem pt_eq (ht : t < 25) : (pt t).val = t := Nat.mod_eq_of_lt ht
theorem idx0_0 : ∀ t, win0_0.index t = ![t.val, 0] := by decide +kernel
theorem idx0_1 : ∀ t, win0_1.index t = ![t.val, 0] := by decide +kernel
theorem idx0_2 : ∀ t, win0_2.index t = ![t.val, 0] := by decide +kernel
theorem idx0_3 : ∀ t, win0_3.index t = ![t.val, 0, 0] := by decide +kernel
/-- The windows that take their whole array at every point. -/
theorem idx0_whole : ∀ t, win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] := by decide +kernel

include ht
theorem in_nf (r : Fin 2000) (k : Fin 480) : (blocksAt V c (pt t)).nf (ix2 r k) = (V c main_arg1 : Vec Ideal S50000x480 .f32) (ix2 ⟨2000 * t + r.val, by omega⟩ k) := by
  show V c main_arg1 ((win0_0.blk (pt t)).view.emb (ix2 r k)) = _
  refine congrArg (V c _) ?_
  blk_ext [idx0_0 (pt t), pt_eq ht]
theorem in_pos (r : Fin 2000) (d : Fin 3) : (blocksAt V c (pt t)).pos (ix2 r d) = (V c main_arg0 : Vec Ideal S50000x3 .f32) (ix2 ⟨2000 * t + r.val, by omega⟩ d) := by
  show V c main_arg0 ((win0_1.blk (pt t)).view.emb (ix2 r d)) = _
  refine congrArg (V c _) ?_
  blk_ext [idx0_1 (pt t), pt_eq ht]
theorem in_bcol (r : Fin 2000) : (blocksAt V c (pt t)).bcol (ix2 r 0) = (V c main_v0 : IVec S50000x1 32) (ix2 ⟨2000 * t + r.val, by omega⟩ 0) := by
  show V c main_v0 ((win0_2.blk (pt t)).view.emb (ix2 r 0)) = _
  refine congrArg (V c _) ?_
  blk_ext [idx0_2 (pt t), pt_eq ht]
theorem in_brow (r : Fin 2000) : (blocksAt V c (pt t)).brow (ix3 0 0 r) = (V c main_v1 : Vec Ideal S25x1x2000 .i32) (ix3 ⟨t, ht⟩ 0 r) := by
  show V c main_v1 ((win0_3.blk (pt t)).view.emb (ix3 0 0 r)) = _
  refine congrArg (V c _) ?_
  blk_ext [idx0_3 (pt t), pt_eq ht]
omit ht
theorem in_m0 (t : Fin cfg0.N) : (blocksAt V c t).m0 = V c main_v5 :=
  funext fun y => congrArg (V c main_v5) (by blk_ext [idx0_whole t])
theorem in_m1 (t : Fin cfg0.N) : (blocksAt V c t).m1 = V c main_v9 :=
  funext fun y => congrArg (V c main_v9) (by blk_ext [idx0_whole t])
theorem in_m2 (t : Fin cfg0.N) : (blocksAt V c t).m2 = V c main_v13 :=
  funext fun y => congrArg (V c main_v13) (by blk_ext [idx0_whole t])
theorem in_tgt (t : Fin cfg0.N) : (blocksAt V c t).tgt = V c main_v2 :=
  funext fun y => congrArg (V c main_v2) (by blk_ext [idx0_whole t])
theorem in_offs (t : Fin cfg0.N) : (blocksAt V c t).offs = V c main_v4 :=
  funext fun y => congrArg (V c main_v4) (by blk_ext [idx0_whole t])
theorem in_p3 (t : Fin cfg0.N) : (blocksAt V c t).p3 = V c main_cst :=
  funext fun y => congrArg (V c main_cst) (by blk_ext [idx0_whole t])
theorem in_p5 (t : Fin cfg0.N) : (blocksAt V c t).p5 = V c main_cst_0 :=
  funext fun y => congrArg (V c main_cst_0) (by blk_ext [idx0_whole t])
theorem in_wt (t : Fin cfg0.N) : (blocksAt V c t).wt = V c main_arg7 :=
  funext fun y => congrArg (V c main_arg7) (by blk_ext [idx0_whole t])
theorem in_bt (t : Fin cfg0.N) : (blocksAt V c t).bt = V c main_v14 :=
  funext fun y => congrArg (V c main_v14) (by blk_ext [idx0_whole t])
theorem in_w0 (t : Fin cfg0.N) : (blocksAt V c t).w0 = V c main_arg9 :=
  funext fun y => congrArg (V c main_arg9) (by blk_ext [idx0_whole t])
theorem in_w1 (t : Fin cfg0.N) : (blocksAt V c t).w1 = V c main_arg10 :=
  funext fun y => congrArg (V c main_arg10) (by blk_ext [idx0_whole t])
theorem in_w2 (t : Fin cfg0.N) : (blocksAt V c t).w2 = V c main_arg11 :=
  funext fun y => congrArg (V c main_arg11) (by blk_ext [idx0_whole t])
theorem in_bf (t : Fin cfg0.N) : (blocksAt V c t).bf = V c main_v15 :=
  funext fun y => congrArg (V c main_v15) (by blk_ext [idx0_whole t])
theorem in_wl (t : Fin cfg0.N) : (blocksAt V c t).wl = V c main_arg13 :=
  funext fun y => congrArg (V c main_arg13) (by blk_ext [idx0_whole t])
theorem in_bl (t : Fin cfg0.N) : (blocksAt V c t).bl = V c main_v16 :=
  funext fun y => congrArg (V c main_v16) (by blk_ext [idx0_whole t])
end

end Cert.KernelIdeal.Gen
-- ==== Proof.Scatter.lean ====
/- Rows added at the places an index column names, and rows taken from them. -/
module

public import Idealize.ShloMosaic.Lib.Routing.OpsPair
public import Idealize.ShloMosaic.Lib.Routing.Ops
public import Idealize.ShloMosaic.Lib.Pointwise

@[expose] public section

noncomputable section

namespace Cert.Scatter

open Idealize.ShloMosaic

/-- The dimensions of a scatter of whole rows by one column of row numbers. -/
abbrev rowDims (G n B : ℕ) (wf : ScatterDims.WF ⟨2, ![G, B]⟩ ⟨2, ![n, 1]⟩ ⟨2, ![n, B]⟩ [1] [0] [0] 1) :
    ScatterDims ⟨2, ![G, B]⟩ ⟨2, ![n, 1]⟩ ⟨2, ![n, B]⟩ := ⟨[1], [0], [0], 1, wf⟩

theorem lands {G n B : ℕ} (wf) (idx : IVec ⟨2, ![n, 1]⟩ 32) (r : Fin n) (k' k : Fin B) (g : Fin G) :
    (rowDims G n B wf).resultIdx? (ix2 r k') idx = some (ix2 g k) ↔ (idx (ix2 r 0)).toInt = g.val ∧ k' = k := by
  rw [Idealize.ShloMosaic.Routing.resultIdx?_eq_some]
  have s0 : (rowDims G n B wf).start (ix2 r k') idx 0 = (idx (ix2 r 0)).toInt := by
    show (idx _).toInt = _
    congr 2
    funext b
    match b with
    | ⟨0, _⟩ => rfl
    | ⟨1, _⟩ => rfl
  have s1 : (rowDims G n B wf).start (ix2 r k') idx 1 = 0 := rfl
  have w0 : (rowDims G n B wf).window (ix2 r k') 0 = 0 := rfl
  have w1 : (rowDims G n B wf).window (ix2 r k') 1 = k'.val := rfl
  constructor
  · intro h
    have h0 := h 0
    have h1 := h 1
    rw [s0, w0] at h0
    rw [s1, w1] at h1
    refine ⟨by simpa using h0, Fin.ext ?_⟩
    have : ((k'.val : ℕ) : ℤ) = k.val := by simpa using h1
    omega
  · rintro ⟨h0, rfl⟩ a
    match a with
    | ⟨0, _⟩ => show (rowDims G n B wf).start (ix2 r k') idx 0 + ((rowDims G n B wf).window (ix2 r k') 0 : ℤ) = _; rw [s0, w0]; simpa using h0
    | ⟨1, _⟩ => show (rowDims G n B wf).start (ix2 r k') idx 1 + ((rowDims G n B wf).window (ix2 r k') 1 : ℤ) = _; rw [s1, w1]; simp

/-- The sum at one entry: the rows whose number it is. -/
theorem scatter_rows {G n B : ℕ} (wf) (x : FVec Ideal ⟨2, ![G, B]⟩ .f32) (idx : IVec ⟨2, ![n, 1]⟩ 32) (upd : FVec Ideal ⟨2, ![n, B]⟩ .f32)
    (b : Fin n → BitVec 32) (hG : G < 2 ^ 31) (hb : ∀ r, idx (ix2 r 0) = b r) (g : Fin G) (k : Fin B) :
    Host.scatterAdd (rowDims G n B wf) x idx upd (ix2 g k) = x (ix2 g k) + ∑ r, if b r = BitVec.ofNat 32 g.val then upd (ix2 r k) else 0 := by
  show x (ix2 g k) + ∑ j ∈ Finset.univ.filter (fun j => (rowDims G n B wf).resultIdx? j idx = some (ix2 g k)), upd j = _
  congr 1
  rw [Finset.sum_filter, sum_idx2]
  refine Finset.sum_congr rfl fun r _ => ?_
  have eg : (BitVec.ofNat 32 g.val).toInt = g.val := by
    have := g.isLt
    rw [BitVec.toInt_ofNat', Int.bmod_def]
    omega
  have e : (idx (ix2 r 0)).toInt = g.val ↔ b r = BitVec.ofNat 32 g.val := by
    rw [hb, ← eg]
    exact ⟨fun h => BitVec.eq_of_toInt_eq h, fun h => by rw [h]⟩
  have h : ∀ k' : Fin B, ((rowDims G n B wf).resultIdx? (ix2 r k') idx = some (ix2 g k)) ↔ (b r = BitVec.ofNat 32 g.val ∧ k' = k) := fun k' => by
    rw [lands, e]
  simp only [h]
  by_cases hh : b r = BitVec.ofNat 32 g.val
  · simp [hh]
  · simp [hh]

end Cert.Scatter

end
-- ==== Proof.RefRead.lean ====
/- The reference's values, layer by layer, as the plain functions of the arguments' entries. -/
module

public import proofs.«01_k».proof.Proof.Gen.ReferenceIdeal.Run
public import proofs.«01_k».proof.Proof.Spec
public import proofs.«01_k».proof.Proof.Scatter
public import Idealize.ShloMosaic.Lib.Tactic.CleanTypes

@[expose] public section

set_option maxRecDepth 16384

noncomputable section

namespace Cert.RefRead

open Idealize.ShloMosaic Idealize.ShloMosaic.TcCoe Idealize.SL.Sem Idealize.ShloMosaic.StableHlo
open Cert.ReferenceIdeal Cert.ReferenceIdeal.Gen Cert.ReferenceIdeal.Value Cert.Model Cert.NodeFold Cert.Spec

/-- A buffer's contents as an array of a stated shape. -/
abbrev arr {S : Shape} (x : Vec Ideal S .f32) : Vec Ideal S .f32 := x
abbrev arrI {S : Shape} (x : IVec S 32) : IVec S 32 := x

/-- The Gaussians' centres. -/
def off (i : Fin 64) : EReal :=
  if i.val < 63 then
    Ideal.ofBits .f32 3231711232#32 * (1 - Ideal.div (FloatOps.sitofp (F := Ideal) .f32 (BitVec.ofNat 32 i.val)) (Ideal.ofBits .f32 1115422720#32))
      + Ideal.ofBits .f32 1084227584#32 * Ideal.div (FloatOps.sitofp (F := Ideal) .f32 (BitVec.ofNat 32 i.val)) (Ideal.ofBits .f32 1115422720#32)
  else Ideal.ofBits .f32 1084227584#32

variable (V0 : Valuation τ sig (Elt Ideal))

def inp : Inp where
  pos n d := arr (S := S50000x3) (V0 (Proc.devRef .tc main_arg0)) (ix2 n d)
  nf n k := arr (S := S50000x480) (V0 (Proc.devRef .tc main_arg1)) (ix2 n k)
  mnf g k := arr (S := S512x480) (V0 (Proc.devRef .tc main_arg2)) (ix2 g k)
  mpos g d := arr (S := S512x3) (V0 (Proc.devRef .tc main_arg4)) (ix2 g d)
  key n := arrI (S := S50000) (V0 (Proc.devRef .tc main_arg5)) (ix1 n)
  tgt g := arr (S := S512) (V0 (Proc.devRef .tc main_arg6)) (ix1 g)
  offs := off
  Wt i k := arr (S := S64x128) (V0 (Proc.devRef .tc main_arg7)) (ix2 i k)
  bt k := arr (S := S128) (V0 (Proc.devRef .tc main_arg8)) (ix1 k)
  A := ⟨fun k j => arr (S := S128x224) (V0 (Proc.devRef .tc main_arg9)) (ix2 k j), fun k j => arr (S := S64x64) (V0 (Proc.devRef .tc main_arg10)) (ix2 k j),
    fun k j => arr (S := S32x32) (V0 (Proc.devRef .tc main_arg11)) (ix2 k j), fun j => arr (S := S224) (V0 (Proc.devRef .tc main_arg12)) (ix1 j)⟩
  wl k := arr (S := S128x1) (V0 (Proc.devRef .tc main_arg13)) (ix2 k 0)
  bl := arr (S := S1) (V0 (Proc.devRef .tc main_arg14)) (ix1 0)
  A' := ⟨fun k j => arr (S := S128x224) (V0 (Proc.devRef .tc main_arg15)) (ix2 k j), fun k j => arr (S := S64x64) (V0 (Proc.devRef .tc main_arg16)) (ix2 k j),
    fun k j => arr (S := S32x32) (V0 (Proc.devRef .tc main_arg17)) (ix2 k j), fun j => arr (S := S224) (V0 (Proc.devRef .tc main_arg18)) (ix1 j)⟩
  P0 m c := arr (S := S128x16) (V0 (Proc.devRef .tc main_arg19)) (ix2 m c)
  P1 m c := arr (S := S64x16) (V0 (Proc.devRef .tc main_arg20)) (ix2 m c)
  P2 m c := arr (S := S32x16) (V0 (Proc.devRef .tc main_arg21)) (ix2 m c)
  pb c := arr (S := S16) (V0 (Proc.devRef .tc main_arg22)) (ix1 c)
  Y k p := Ideal.ofBits .f32 (lit0 (S9x1024.rowMajor (ix2 k p)))

theorem cast_n (n : Fin 50000) : Fin.ofNat 50000 n.val = n := Fin.ext (Nat.mod_eq_of_lt n.isLt)

variable (n : Fin 50000) (hb : arrI (S := S50000) (V0 (Proc.devRef .tc main_arg5)) (ix1 n) = BitVec.ofNat 32 ((inp V0).bat n).val) (g : Fin 512)

theorem v6 (i : Fin 64) : arr (S := S512x64) (res_main_v6 V0) (ix2 g i) = (inp V0).tgt g - (inp V0).offs i := by
  show _ = _ - off i
  unfold arr res_main_v6 res_main_call0_v6 res_main_call0_v1 res_main_call0_v0 off
  clean_types
  pointwise
  split <;> rfl

theorem v18 (k : Fin 480) : arr (S := S512x480) (res_main_v18 V0) (ix2 g k)
    = if h : k.val < 128 then (inp V0).ts g ⟨k.val, h⟩ else 0 := by
  have h6 := v6 V0 g
  unfold arr at h6 ⊢
  unfold res_main_v18
  clean_types
  pointwise
  simp only [h6]
  rfl

/-- The rows taken at the nodes' graphs. -/
theorem take {B : ℕ} (wf) (x : (⟨2, ![512, B]⟩ : Shape).Idx → EReal) (idx : IVec ⟨2, ![50000, 1]⟩ 32)
    (b : Fin 512) (hi : idx (ix2 n 0) = BitVec.ofNat 32 b.val) (k : Fin B) :
    Host.gather (⟨[1], [0], [], [], [0], 1, ![1, B], wf⟩ : GatherDims ⟨2, ![512, B]⟩ ⟨2, ![50000, 1]⟩ ⟨2, ![50000, B]⟩) x idx (ix2 n k) = x (ix2 b k) :=
  Routing.gather_row _ rfl rfl rfl rfl rfl x idx n k b hi (by norm_num)

include hb in
theorem wrapped (hbc : S50000.BroadcastsInDim S50000x1 (![0] : Fin 1 → Fin 2)) (h0 : S_.BroadcastsInDim S50000 (![] : Fin 0 → Fin 1)) :
    broadcastInDim S50000x1 ![0] hbc (select (cmpi .slt (V0 (Proc.devRef .tc main_arg5)) (broadcastInDim S50000 ![] h0 (constantI S_ 32 0#32)))
      (addi (V0 (Proc.devRef .tc main_arg5)) (broadcastInDim S50000 ![] h0 (constantI S_ 32 512#32))) (V0 (Proc.devRef .tc main_arg5))) (ix2 n 0)
      = BitVec.ofNat 32 ((inp V0).bat n).val := by
  clean_types
  pointwise
  have e := hb
  unfold arrI at e
  rw [e]
  apply Routing.wrap_of_lt
  have := ((inp V0).bat n).isLt
  rw [BitVec.toNat_ofNat]
  omega

include hb in
theorem v28 (k : Fin 480) : arr (S := S50000x480) (res_main_v28 V0) (ix2 n k)
    = (inp V0).nf n k + ((inp V0).mnf ((inp V0).bat n) k + if h : k.val < 128 then silu ((inp V0).ts ((inp V0).bat n) ⟨k.val, h⟩) else 0) := by
  have h18 := v18 V0
  unfold arr at h18 ⊢
  unfold res_main_v28
  clean_types
  pointwise
  rw [show gather_S512x480_S50000x1_S50000x480_1_0_n_n_0_1_1480 = ⟨[1], [0], [], [], [0], 1, ![1, 480], _⟩ from rfl]
  rw [take n _ _ _ _ (wrapped V0 n hb _ _)]
  clean_types
  pointwise
  rw [h18]
  congr 2
  split
  · rfl
  · simp

/-! ## A node's row through the normalization, the linear map and the gate -/

include hb in
theorem row0 (k : Fin 128) : arr (S := S50000x480) (res_main_v28 V0) (ix2 n ⟨k.val, by omega⟩) = ((inp V0).R n.val).x0 k := by
  rw [v28 V0 n hb]
  unfold Inp.R
  simp only [cast_n, k.isLt, dif_pos]
include hb in
theorem row1 (m : Fin 64) (d : Fin 3) : arr (S := S50000x480) (res_main_v28 V0) (ix2 n ⟨128 + (m.val * 3 + d.val), by omega⟩) = ((inp V0).R n.val).x1 m d := by
  rw [v28 V0 n hb, dif_neg (by show ¬(128 + _ < 128); omega), add_zero]
  unfold Inp.R
  simp only [cast_n, mul_comm m.val 3]
include hb in
theorem row2 (m : Fin 32) (d : Fin 5) : arr (S := S50000x480) (res_main_v28 V0) (ix2 n ⟨320 + (m.val * 5 + d.val), by omega⟩) = ((inp V0).R n.val).x2 m d := by
  rw [v28 V0 n hb, dif_neg (by show ¬(320 + _ < 128); omega), add_zero]
  unfold Inp.R
  simp only [cast_n, mul_comm m.val 5]

include hb in
theorem cen (k : Fin 128) : arr (S := S50000x128x1) (res_main_v40 V0) (ix3 n k 0) = ((inp V0).R n.val).cen k := by
  have h := row0 V0 n hb
  unfold arr at h ⊢
  unfold res_main_v40 res_main_v30
  clean_types
  pointwise
  simp only [h]; rfl

/-- A place in a concatenation's second or third part, and the quotient and remainder there. -/
theorem q3 (a m d : ℕ) (h : d < 3) : (a + (m * 3 + d) - a) / 3 = m ∧ (a + (m * 3 + d) - a) % 3 = d := by omega
theorem q5 (a m d : ℕ) (h : d < 5) : (a + (m * 5 + d) - a) / 5 = m ∧ (a + (m * 5 + d) - a) % 5 = d := by omega

include hb in
theorem norm0 (k : Fin 128) : arr (S := S50000x480) (res_main_v77 V0) (ix2 n ⟨k.val, by omega⟩) = ((inp V0).R n.val).norm.x0 k := by
  have h := cen V0 n hb
  unfold arr at h ⊢
  unfold res_main_v77
  clean_types
  pointwise
  simp only [Fin.sum_univ_one, h]; rfl
include hb in
theorem norm1 (m : Fin 64) (d : Fin 3) : arr (S := S50000x480) (res_main_v77 V0) (ix2 n ⟨128 + (m.val * 3 + d.val), by omega⟩) = ((inp V0).R n.val).norm.x1 m d := by
  have h := row1 V0 n hb
  unfold arr at h ⊢
  unfold res_main_v77 res_main_v32
  clean_types
  pointwise
  rw [dif_pos (by omega)]
  obtain ⟨e1, e2⟩ := q3 128 m.val d.val d.isLt
  simp only [e1, e2, h]; rfl
include hb in
theorem norm2 (m : Fin 32) (d : Fin 5) : arr (S := S50000x480) (res_main_v77 V0) (ix2 n ⟨320 + (m.val * 5 + d.val), by omega⟩) = ((inp V0).R n.val).norm.x2 m d := by
  have h := row2 V0 n hb
  unfold arr at h ⊢
  unfold res_main_v77 res_main_v34
  clean_types
  pointwise
  rw [dif_neg (by omega), dif_neg (by omega)]
  obtain ⟨e1, e2⟩ := q5 320 m.val d.val d.isLt
  simp only [Nat.sub_sub, e1, e2, h]; rfl

include hb in
theorem mid0 (j : Fin 224) : arr (S := S50000x576) (res_main_v102 V0) (ix2 n ⟨j.val, by omega⟩) = ((inp V0).R n.val).norm.o0 (inp V0).A j := by
  have h := norm0 V0 n hb
  unfold arr at h ⊢
  unfold res_main_v102
  clean_types
  pointwise
  simp only [h]
  refine congrArg (fun x => Ideal.div x q128 + _) (Finset.sum_congr rfl fun x _ => mul_comm _ _)
include hb in
theorem mid1 (m : Fin 64) (d : Fin 3) : arr (S := S50000x576) (res_main_v102 V0) (ix2 n ⟨224 + (m.val * 3 + d.val), by omega⟩) = ((inp V0).R n.val).norm.o1 (inp V0).A m d := by
  have h := norm1 V0 n hb
  unfold arr at h ⊢
  unfold res_main_v102
  clean_types
  pointwise
  rw [dif_pos (by omega)]
  obtain ⟨e1, e2⟩ := q3 224 m.val d.val d.isLt
  simp only [e1, e2, h]
  refine congrArg (Ideal.div · q64) (Finset.sum_congr rfl fun x _ => mul_comm _ _)
include hb in
theorem mid2 (m : Fin 32) (d : Fin 5) : arr (S := S50000x576) (res_main_v102 V0) (ix2 n ⟨416 + (m.val * 5 + d.val), by omega⟩) = ((inp V0).R n.val).norm.o2 (inp V0).A m d := by
  have h := norm2 V0 n hb
  unfold arr at h ⊢
  unfold res_main_v102
  clean_types
  pointwise
  rw [dif_neg (by omega), dif_neg (by omega)]
  obtain ⟨e1, e2⟩ := q5 416 m.val d.val d.isLt
  simp only [Nat.sub_sub, e1, e2, h]
  refine congrArg (Ideal.div · q32) (Finset.sum_congr rfl fun x _ => mul_comm _ _)

include hb in
theorem gate0 (k : Fin 128) : arr (S := S50000x480) (res_main_v126 V0) (ix2 n ⟨k.val, by omega⟩) = (((inp V0).R n.val).norm.gate (inp V0).A).x0 k := by
  have h := fun j : Fin 224 => mid0 V0 n hb j
  unfold arr at h ⊢
  unfold res_main_v126 res_main_v103
  clean_types
  pointwise
  rw [h ⟨k.val, by omega⟩]; rfl
include hb in
theorem gate1 (m : Fin 64) (d : Fin 3) : arr (S := S50000x480) (res_main_v126 V0) (ix2 n ⟨128 + (m.val * 3 + d.val), by omega⟩)
    = (((inp V0).R n.val).norm.gate (inp V0).A).x1 m d := by
  have h := mid1 V0 n hb m d
  have h' := mid0 V0 n hb ⟨128 + m.val, by omega⟩
  unfold arr at h h' ⊢
  unfold res_main_v126 res_main_v111
  clean_types
  pointwise
  rw [dif_pos (by omega)]
  exact congrArg₂ (fun a b => a * Ideal.div 1 (1 + Ideal.exp (-b))) h h'
include hb in
theorem gate2 (m : Fin 32) (d : Fin 5) : arr (S := S50000x480) (res_main_v126 V0) (ix2 n ⟨320 + (m.val * 5 + d.val), by omega⟩)
    = (((inp V0).R n.val).norm.gate (inp V0).A).x2 m d := by
  have h := mid2 V0 n hb m d
  have h' := mid0 V0 n hb ⟨192 + m.val, by omega⟩
  unfold arr at h h' ⊢
  unfold res_main_v126 res_main_v111
  clean_types
  pointwise
  rw [dif_neg (by omega), dif_neg (by omega)]
  have key : ∀ (i j : Fin 576), i.val = 416 + (m.val * 5 + d.val) → j.val = 192 + m.val →
      arr (S := S50000x576) (res_main_v102 V0) (ix2 n i) * Ideal.div 1 (1 + Ideal.exp (-(arr (S := S50000x576) (res_main_v102 V0) (ix2 n j))))
        = (((inp V0).R n.val).norm.gate (inp V0).A).x2 m d := fun i j hi hj => by
    have e1 := congrArg (fun q : Fin 576 => arr (S := S50000x576) (res_main_v102 V0) (ix2 n q)) (Fin.ext hi : i = ⟨416 + (m.val * 5 + d.val), by omega⟩)
    have e2 := congrArg (fun q : Fin 576 => arr (S := S50000x576) (res_main_v102 V0) (ix2 n q)) (Fin.ext hj : j = ⟨192 + m.val, by omega⟩)
    exact congrArg₂ (fun a b => a * Ideal.div 1 (1 + Ideal.exp (-b))) (e1.trans h) (e2.trans h')
  refine key _ _ ?_ ?_
  · dsimp only; omega
  · dsimp only; omega

/-! ## The logits, each graph's maximum, and the weights -/

include hb in
theorem logit : arr (S := S50000x1) (res_main_v133 V0) (ix2 n 0) = (inp V0).l n.val := by
  have h := gate0 V0 n hb
  unfold arr at h ⊢
  unfold res_main_v133
  clean_types
  pointwise
  simp only [h]; rfl

theorem fold_sup {N : ℕ} (f : Fin N → EReal) : Finset.fold max ⊥ f Finset.univ = Finset.univ.sup f := rfl

theorem hit_iff (n : Fin 50000) (g : Fin 512) :
    hit (inp V0).b g n.val ↔ arrI (S := S50000) (V0 (Proc.devRef .tc main_arg5)) (ix1 n) = BitVec.ofNat 32 g.val := by
  show (inp V0).key (Fin.ofNat _ n.val) = BitVec.ofNat 32 g.val ↔ _
  rw [cast_n]; rfl
/-- The graph of a node that one graph has. -/
theorem hit_bat {n : Fin 50000} {g : Fin 512} (h : hit (inp V0).b g n.val) : (inp V0).bat n = g :=
  (inp V0).bat_of ((hit_iff V0 n g).mp h)
theorem hit_key {n : Fin 50000} {g : Fin 512} (h : hit (inp V0).b g n.val) :
    arrI (S := S50000) (V0 (Proc.devRef .tc main_arg5)) (ix1 n) = BitVec.ofNat 32 ((inp V0).bat n).val := by
  rw [hit_bat V0 h]; exact (hit_iff V0 n g).mp h

theorem top : arr (S := S512x1) (res_main_v142 V0) (ix2 g 0) = (inp V0).top g := by
  have h := fun n (hn : hit (inp V0).b g n.val) => logit V0 n (hit_key V0 hn)
  have e := fun n => hit_iff V0 n g
  unfold arr at h ⊢
  unfold arrI at e
  unfold res_main_v142
  clean_types
  pointwise
  rw [inf_bot]
  have t : (inp V0).top g = (Finset.univ : Finset (Fin 50000)).sup fun n => if hit (inp V0).b g n.val then (inp V0).l n.val else ⊥ := by
    have := Fold.top_add (hit (inp V0).b g) (inp V0).l 0 50000
    simp only [zero_add] at this
    unfold Inp.top
    rw [this, show Fold.top (hit (inp V0).b g) (inp V0).l 0 = ⊥ from rfl, bot_sup_eq]
  rw [t]
  rw [fold_sup]
  refine congrArg (Finset.sup Finset.univ) (funext fun n => ?_)
  by_cases hh : hit (inp V0).b g n.val
  · rw [if_pos hh, (e n).mp hh, h n hh]
    show Scalar.select (BitVec.ofBool (_ == _)) _ _ = _
    rw [beq_self_eq_true]; rfl
  · rw [if_neg hh]
    show Scalar.select (BitVec.ofBool (_ == _)) _ _ = _
    rw [beq_eq_false_iff_ne.mpr (fun q => hh ((e n).mpr q))]
    exact inf_bot

end Cert.RefRead

end
-- ==== Proof.HostIn.lean ====
/- The arrays the two kernels are launched on, as entries of the arguments. -/
module
public import proofs.«01_k».proof.Proof.WholeRun
public import proofs.«01_k».proof.Proof.RefRead
public import Idealize.ShloMosaic.Lib.Claim
@[expose] public section
set_option maxRecDepth 16384
noncomputable section
namespace Cert.KernelIdeal.Gen
open Idealize.ShloMosaic Idealize.ShloMosaic.TcCoe Idealize.ShloMosaic.Pipeline
open Cert.RefRead (arr arrI)

variable (m : (ℓ : Loc nD τ sig) → Buf (Elt Ideal) ℓ) (ρ : Dev nD → PrngReg) (c : Dev nD)

abbrev argK (b : Ref sig .tc) : Buf (Elt Ideal) ((c : Thread nD τ).loc b) := m ((c : Thread nD τ).loc b)

/-- The arguments' entries, read from the kernel's memory. -/
def kin : Cert.Spec.Inp where
  pos n d := arr (S := S50000x3) (argK m c main_arg0) (ix2 n d)
  nf n k := arr (S := S50000x480) (argK m c main_arg1) (ix2 n k)
  mnf g k := arr (S := S512x480) (argK m c main_arg2) (ix2 g k)
  mpos g d := arr (S := S512x3) (argK m c main_arg4) (ix2 g d)
  key n := arrI (S := S50000) (argK m c main_arg5) (ix1 n)
  tgt g := arr (S := S512) (argK m c main_arg6) (ix1 g)
  offs := Cert.RefRead.off
  Wt i k := arr (S := S64x128) (argK m c main_arg7) (ix2 i k)
  bt k := arr (S := S128) (argK m c main_arg8) (ix1 k)
  A := ⟨fun k j => arr (S := S128x224) (argK m c main_arg9) (ix2 k j), fun k j => arr (S := S64x64) (argK m c main_arg10) (ix2 k j),
    fun k j => arr (S := S32x32) (argK m c main_arg11) (ix2 k j), fun j => arr (S := S224) (argK m c main_arg12) (ix1 j)⟩
  wl k := arr (S := S128x1) (argK m c main_arg13) (ix2 k 0)
  bl := arr (S := S1) (argK m c main_arg14) (ix1 0)
  A' := ⟨fun k j => arr (S := S128x224) (argK m c main_arg15) (ix2 k j), fun k j => arr (S := S64x64) (argK m c main_arg16) (ix2 k j),
    fun k j => arr (S := S32x32) (argK m c main_arg17) (ix2 k j), fun j => arr (S := S224) (argK m c main_arg18) (ix1 j)⟩
  P0 m' k := arr (S := S128x16) (argK m c main_arg19) (ix2 m' k)
  P1 m' k := arr (S := S64x16) (argK m c main_arg20) (ix2 m' k)
  P2 m' k := arr (S := S32x16) (argK m c main_arg21) (ix2 m' k)
  pb k := arr (S := S16) (argK m c main_arg22) (ix1 k)
  Y k p := Ideal.ofBits .f32 (lit2 (S9x1024.rowMajor (ix2 k p)))

theorem host_v0 (n : Fin 50000) : arrI (S := S50000x1) (V3 m ρ c main_v0) (ix2 n 0) = arrI (S := S50000) (argK m c main_arg5) (ix1 n) := by
  show StableHlo.after hostOps0_2 (StableHlo.after hostOps0_1 (StableHlo.after hostOps0 (W0 m ρ c))) _ _ = _
  entry_read
  pointwise
theorem host_v1 (t : Fin 25) (r : Fin 2000) : arrI (S := S25x1x2000) (V3 m ρ c main_v1) (ix3 t 0 r) = arrI (S := S50000) (argK m c main_arg5) (ix1 ⟨2000 * t.val + r.val, by omega⟩) := by
  show StableHlo.after hostOps0_2 (StableHlo.after hostOps0_1 (StableHlo.after hostOps0 (W0 m ρ c))) _ _ = _
  entry_read
  pointwise
  exact congrArg (fun q => arrI (S := S50000) (argK m c main_arg5) (ix1 q)) (Fin.ext (by simp only [Nat.mul_comm]))
theorem host_v2 (g : Fin 512) : arr (S := S512x1) (V3 m ρ c main_v2) (ix2 g 0) = arr (S := S512) (argK m c main_arg6) (ix1 g) := by
  show StableHlo.after hostOps0_2 (StableHlo.after hostOps0_1 (StableHlo.after hostOps0 (W0 m ρ c))) _ _ = _
  entry_read
  pointwise
/-- The centres as the launch computes them. -/
def centres : Vec Ideal S64 .f32 :=
  let x : Vec Ideal S63 .f32 := Host.divf (F := Ideal) (sitofp (F := Ideal) .f32 (iotaInDim S63 32 0)) (broadcastInDim S63 ![] bcast_S_S63 (constant (F := Ideal) S_ .f32 0x427C0000#32))
  concatenate S64 0 [⟨S63, addf (mulf (broadcastInDim S63 ![0] bcast_S1_S63_0 (shapeCast S1 (constant (F := Ideal) S_ .f32 0xC0A00000#32) shapeCasts_S_S1))
        (subf (broadcastInDim S63 ![] bcast_S_S63 (constant S_ .f32 0x3F800000#32)) x))
      (mulf (broadcastInDim S63 ![0] bcast_S1_S63_0 (shapeCast S1 (constant (F := Ideal) S_ .f32 0x40A00000#32) shapeCasts_S_S1)) x)⟩,
    ⟨S1, broadcastInDim S1 ![] bcast_S_S1 (constant (F := Ideal) S_ .f32 0x40A00000#32)⟩] concatenates_S63_S1_S64_d0
theorem centres_apply (k : Fin 64) : centres (ix1 k) = Cert.RefRead.off k := by
  unfold centres Cert.RefRead.off
  pointwise
  split <;> rfl
theorem host_v4 (k : Fin 64) : arr (S := S1x64) (V3 m ρ c main_v4) (ix2 0 k) = Cert.RefRead.off k := by
  show StableHlo.after hostOps0_2 (StableHlo.after hostOps0_1 (StableHlo.after hostOps0 (W0 m ρ c))) _ _ = _
  entry_read
  refine Eq.trans (show _ = shapeCast S1x64 centres shapeCasts_S64_S1x64 (ix2 0 k) from rfl) ?_
  pointwise
  exact centres_apply k
theorem host_v5 (g : Fin 512) (k : Fin 128) : arr (S := S512x128) (V3 m ρ c main_v5) (ix2 g k) = arr (S := S512x480) (argK m c main_arg2) (ix2 g ⟨k.val, by omega⟩) := by
  show StableHlo.after hostOps0_2 (W2 m ρ c) _ _ = _
  entry_read
  pointwise
theorem host_v9 (g : Fin 512) (q : Fin 64) (d : Fin 3) : arr (S := S512x192) (V3 m ρ c main_v9) (ix2 g ⟨64 * d.val + q.val, by omega⟩) =
    arr (S := S512x480) (argK m c main_arg2) (ix2 g ⟨128 + (3 * q.val + d.val), by omega⟩) := by
  show StableHlo.after hostOps0_2 (W2 m ρ c) _ _ = _
  entry_read
  pointwise
  exact congrArg (fun z => arr (S := S512x480) (argK m c main_arg2) (ix2 g z)) (Fin.ext (by simp only [Nat.mul_comm]))
theorem host_v13 (g : Fin 512) (q : Fin 32) (d : Fin 5) : arr (S := S512x160) (V3 m ρ c main_v13) (ix2 g ⟨32 * d.val + q.val, by omega⟩) =
    arr (S := S512x480) (argK m c main_arg2) (ix2 g ⟨320 + (5 * q.val + d.val), by omega⟩) := by
  show StableHlo.after hostOps0_2 (W2 m ρ c) _ _ = _
  entry_read
  pointwise
  exact congrArg (fun z => arr (S := S512x480) (argK m c main_arg2) (ix2 g z)) (Fin.ext (by simp only [Nat.mul_comm]))
theorem host_v14 (k : Fin 128) : arr (S := S1x128) (V3 m ρ c main_v14) (ix2 0 k) = arr (S := S128) (argK m c main_arg8) (ix1 k) := by
  show StableHlo.after hostOps0_2 (W2 m ρ c) _ _ = _
  entry_read
  pointwise
theorem host_v15 (k : Fin 224) : arr (S := S1x224) (V3 m ρ c main_v15) (ix2 0 k) = arr (S := S224) (argK m c main_arg12) (ix1 k) := by
  show StableHlo.after hostOps0_2 (W2 m ρ c) _ _ = _
  entry_read
  pointwise
theorem host_v16 : arr (S := S1x1) (V3 m ρ c main_v16) (ix2 0 0) = arr (S := S1) (argK m c main_arg14) (ix1 0) := by
  show StableHlo.after hostOps0_2 (W2 m ρ c) _ _ = _
  entry_read
  pointwise

end Cert.KernelIdeal.Gen
-- ==== Proof.Consts.lean ====
/- The constant tables of the two programs: two permutation matrices, and the harmonics on the grid, which both hold. -/
module
public import proofs.«01_k».proof.Proof.HostIn
@[expose] public section
set_option maxRecDepth 16384
noncomputable section
namespace Cert.KernelIdeal.Gen
open Idealize.ShloMosaic

/-- One digit's look-up in a table, by the number of entries. -/
def pick128 {α : Type} (f : Nat → α) (d : α) (j : Nat) : α := match j with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => d
def pick72 {α : Type} (f : Nat → α) (d : α) (j : Nat) : α := match j with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | _ => d
def pick32 {α : Type} (f : Nat → α) (d : α) (j : Nat) : α := match j with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | _ => d

theorem pick128_eq {α : Type} (f : Nat → α) (d : α) (j : Nat) (h : j < 128) : pick128 f d j = f j := by
  interval_cases j <;> rfl
theorem pick72_eq {α : Type} (f : Nat → α) (d : α) (j : Nat) (h : j < 72) : pick72 f d j = f j := by
  interval_cases j <;> rfl
theorem pick32_eq {α : Type} (f : Nat → α) (d : α) (j : Nat) (h : j < 32) : pick32 f d j = f j := by
  interval_cases j <;> rfl

/-- The entries of the two permutation matrices by position. -/
def e3 (n : Nat) : BitVec 32 := bif Nat.beq (n / 192) (3 * (n % 192 % 64) + n % 192 / 64) then 0x3F800000#32 else 0x00000000#32
def e5 (n : Nat) : BitVec 32 := bif Nat.beq (n / 160) (5 * (n % 160 % 32) + n % 160 / 32) then 0x3F800000#32 else 0x00000000#32

theorem tab3_0 : lit0t1_0 = fun i => pick128 (fun q => pick128 (fun r => e3 (128 * q + r)) 0#32 (i % 128)) 0#32 (i / 128 % 128) := rfl
theorem tab3_1 : lit0t1_1 = fun i => pick128 (fun q => pick128 (fun r => e3 (128 * (128 + q) + r)) 0#32 (i % 128)) 0#32 (i / 128 % 128) := rfl
theorem tab3_2 : lit0t1_2 = fun i => pick32 (fun q => pick128 (fun r => e3 (128 * (256 + q) + r)) 0#32 (i % 128)) 0#32 (i / 128 % 128) := rfl
theorem tab5_0 : lit1t1_0 = fun i => pick128 (fun q => pick128 (fun r => e5 (128 * q + r)) 0#32 (i % 128)) 0#32 (i / 128 % 128) := rfl
theorem tab5_1 : lit1t1_1 = fun i => pick72 (fun q => pick128 (fun r => e5 (128 * (128 + q) + r)) 0#32 (i % 128)) 0#32 (i / 128 % 128) := rfl
theorem tab_y : lit2t = Cert.ReferenceIdeal.lit0t := rfl

theorem lit_p3 (n : Nat) (hn : n < 36864) : lit0t n = e3 n := by
  have h : n / 16384 = 0 ∨ n / 16384 = 1 ∨ n / 16384 = 2 := by omega
  unfold lit0t
  rcases h with h | h | h
  · rw [h]; show lit0t1_0 n = _; rw [tab3_0]; dsimp only
    rw [pick128_eq _ _ _ (by omega), pick128_eq _ _ _ (by omega)]; exact congrArg e3 (by omega)
  · rw [h]; show lit0t1_1 n = _; rw [tab3_1]; dsimp only
    rw [pick128_eq _ _ _ (by omega), pick128_eq _ _ _ (by omega)]; exact congrArg e3 (by omega)
  · rw [h]; show lit0t1_2 n = _; rw [tab3_2]; dsimp only
    rw [pick32_eq _ _ _ (by omega), pick128_eq _ _ _ (by omega)]; exact congrArg e3 (by omega)
theorem lit_p5 (n : Nat) (hn : n < 25600) : lit1t n = e5 n := by
  have h : n / 16384 = 0 ∨ n / 16384 = 1 := by omega
  unfold lit1t
  rcases h with h | h
  · rw [h]; show lit1t1_0 n = _; rw [tab5_0]; dsimp only
    rw [pick128_eq _ _ _ (by omega), pick128_eq _ _ _ (by omega)]; exact congrArg e5 (by omega)
  · rw [h]; show lit1t1_1 n = _; rw [tab5_1]; dsimp only
    rw [pick72_eq _ _ _ (by omega), pick128_eq _ _ _ (by omega)]; exact congrArg e5 (by omega)

theorem one_bits : (FloatOps.ofBits .f32 0x3F800000#32 : Ideal .f32) = (1 : EReal) := by
  show Ideal.ofBits .f32 _ = _
  simp [Ideal.ofBits, Ideal.ieee]
  rw [← EReal.coe_mul]; norm_num
theorem zero_bits : (FloatOps.ofBits .f32 0x00000000#32 : Ideal .f32) = (0 : EReal) := by
  show Ideal.ofBits .f32 _ = _
  simp [Ideal.ofBits, Ideal.ieee]
/-- A bit pattern chosen by an equality of numbers, as the number it stands for. -/
theorem bits_if (a b : Nat) : (FloatOps.ofBits .f32 (bif Nat.beq a b then 0x3F800000#32 else 0x00000000#32) : Ideal .f32) = (if a = b then 1 else 0 : EReal) := by
  by_cases h : a = b
  · rw [if_pos h, h, Nat.beq_refl]; exact one_bits
  · rw [if_neg h, show Nat.beq a b = false by rw [← Bool.not_eq_true, Nat.beq_eq]; exact h]; exact zero_bits

theorem p3_entry (k j : Fin 192) : (FloatOps.ofBits .f32 (lit0 (S192x192.rowMajor (ix2 k j))) : Ideal .f32) =
    (if k = ⟨3 * (j.val % 64) + j.val / 64, by omega⟩ then 1 else 0 : EReal) := by
  have h : lit0 (S192x192.rowMajor (ix2 k j)) = lit0t (k.val * 192 + j.val) := congrArg lit0t (Shape.rowMajor_val_two (d := ![192, 192]) (ix2 k j))
  have hd : (k.val * 192 + j.val) / 192 = k.val := by omega
  have hm : (k.val * 192 + j.val) % 192 = j.val := by omega
  rw [h, lit_p3 _ (by omega)]
  unfold e3
  rw [hd, hm, bits_if]
  simp only [Fin.ext_iff]
theorem p5_entry (k j : Fin 160) : (FloatOps.ofBits .f32 (lit1 (S160x160.rowMajor (ix2 k j))) : Ideal .f32) =
    (if k = ⟨5 * (j.val % 32) + j.val / 32, by omega⟩ then 1 else 0 : EReal) := by
  have h : lit1 (S160x160.rowMajor (ix2 k j)) = lit1t (k.val * 160 + j.val) := congrArg lit1t (Shape.rowMajor_val_two (d := ![160, 160]) (ix2 k j))
  have hd : (k.val * 160 + j.val) / 160 = k.val := by omega
  have hm : (k.val * 160 + j.val) % 160 = j.val := by omega
  rw [h, lit_p5 _ (by omega)]
  unfold e5
  rw [hd, hm, bits_if]
  simp only [Fin.ext_iff]
theorem y_entry (k : Fin 9) (p : Fin 1024) : lit2 (S9x1024.rowMajor (ix2 k p)) = Cert.ReferenceIdeal.lit0 (Cert.ReferenceIdeal.S9x1024.rowMajor (ix2 k p)) :=
  (congrArg lit2t (Shape.rowMajor_val_two (d := ![9, 1024]) (ix2 k p))).trans
    ((congrFun tab_y _).trans (congrArg Cert.ReferenceIdeal.lit0t (Shape.rowMajor_val_two (d := ![9, 1024]) (ix2 k p))).symm)

end Cert.KernelIdeal.Gen
-- ==== Proof.NodeVals.lean ====
/- The node kernel's blocks are the nodes' rows: its outputs at the launch. -/
module
public import proofs.«01_k».proof.Proof.NodeIn
public import proofs.«01_k».proof.Proof.HostIn
public import proofs.«01_k».proof.Proof.Consts
@[expose] public section
set_option maxRecDepth 16384
noncomputable section
namespace Cert.KernelIdeal.Gen
open Idealize.ShloMosaic Idealize.ShloMosaic.TcCoe Idealize.ShloMosaic.Pipeline Cert.Model Cert.NodeFold Cert.KernelRow
open Cert.RefRead (arr arrI)

variable (m : (ℓ : Loc nD τ sig) → Buf (Elt Ideal) ℓ) (ρ : Dev nD → PrngReg) (c : Dev nD)

/-- The node kernel's blocks at point `t`. -/
abbrev blk0 (t : ℕ) : Ins Ideal := blocksAt (V3 m ρ) c (pt t)

theorem host_cst (k j : Fin 192) : arr (S := S192x192) (V3 m ρ c main_cst) (ix2 k j) = (FloatOps.ofBits .f32 (lit0 (S192x192.rowMajor (ix2 k j))) : Ideal .f32) := by
  show StableHlo.after hostOps0_2 (StableHlo.after hostOps0_1 (StableHlo.after hostOps0 (W0 m ρ c))) _ _ = _
  entry_read
  rfl
theorem host_cst0 (k j : Fin 160) : arr (S := S160x160) (V3 m ρ c main_cst_0) (ix2 k j) = (FloatOps.ofBits .f32 (lit1 (S160x160.rowMajor (ix2 k j))) : Ideal .f32) := by
  show StableHlo.after hostOps0_2 (StableHlo.after hostOps0_1 (StableHlo.after hostOps0 (W0 m ρ c))) _ _ = _
  entry_read
  rfl
theorem nd {t : ℕ} (ht : t < 25) (r : Fin 2000) : Fin.ofNat 50000 (2000 * t + r.val) = ⟨2000 * t + r.val, by omega⟩ :=
  Fin.ext (Nat.mod_eq_of_lt (by omega))

theorem first_b0 (g : Fin 512) (k : Fin 128) : (blk0 m ρ c 0).first.b0 (ix2 g k) =
    (kin m c).mnf g ⟨k.val, by omega⟩ + silu ((kin m c).ts g k) := by
  have h5 := host_v5 m ρ c g k
  have h2 := host_v2 m ρ c g
  have h4 := fun i => host_v4 m ρ c i
  have h14 := host_v14 m ρ c k
  have h7 : V3 m ρ c main_arg7 = argK m c main_arg7 := W3_args m ρ c main_arg7 (by decide)
  unfold arr at *
  show k0_pay5 (blk0 m ρ c 0).tgt (blk0 m ρ c 0).offs (blk0 m ρ c 0).wt (blk0 m ρ c 0).bt (blk0 m ρ c 0).m0 (ix2 g k) = _
  rw [in_tgt, in_offs, in_wt, in_bt, in_m0, h7]
  pointwise [k0_pay5]
  simp only [h5, h2, h4, h14]
  rfl
theorem first_b1 (g : Fin 512) (q : Fin 64) (d : Fin 3) : (blk0 m ρ c 0).first.b1 (ix2 g ⟨64 * d.val + q.val, by omega⟩) =
    (kin m c).mnf g ⟨128 + (3 * q.val + d.val), by omega⟩ := by
  show k0_pay6 (blk0 m ρ c 0).m1 _ = _
  rw [in_m1]
  pointwise [k0_pay6]
  exact host_v9 m ρ c g q d
theorem first_b2 (g : Fin 512) (q : Fin 32) (d : Fin 5) : (blk0 m ρ c 0).first.b2 (ix2 g ⟨32 * d.val + q.val, by omega⟩) =
    (kin m c).mnf g ⟨320 + (5 * q.val + d.val), by omega⟩ := by
  show k0_pay8 (k0_pay7 (blk0 m ρ c 0).m2) _ = _
  rw [in_m2]
  pointwise [k0_pay8, k0_pay7]
  exact host_v13 m ρ c g q d

theorem blocks : Blocks (blk0 m ρ c) (blk0 m ρ c 0).first.b0 (blk0 m ρ c 0).first.b1 (blk0 m ρ c 0).first.b2
    (kin m c).R (kin m c).A (kin m c).wl (kin m c).bl (fun n => (kin m c).pos (Fin.ofNat _ n)) (kin m c).b where
  tables t ht := by
    constructor
    · intro k j; rw [in_p3]; exact (host_cst m ρ c k j).trans (p3_entry k j)
    · intro k j; rw [in_p5]; exact (host_cst0 m ρ c k j).trans (p5_entry k j)
  bcol t ht r := by
    refine (in_bcol (V3 m ρ) c ht r).trans ((host_v0 m ρ c _).trans ?_)
    unfold Cert.Spec.Inp.b; rw [nd ht r]; rfl
  brow t ht r := by
    refine (in_brow (V3 m ρ) c ht r).trans ((host_v1 m ρ c _ r).trans ?_)
    unfold Cert.Spec.Inp.b; rw [nd ht r]; rfl
  row t ht r g S hg h0 h1 h2 := by
    have hg' := (kin m c).bat_of hg
    have hn := fun k => (in_nf (V3 m ρ) c ht r k).trans (congrArg (fun x => arr (S := S50000x480) x (ix2 _ k)) (W3_args m ρ c main_arg1 (by decide)))
    unfold rowOf Cert.Spec.Inp.R
    rw [hg', h0, h1, h2, nd ht r]
    simp only [hn, first_b0 m ρ c, first_b1 m ρ c, first_b2 m ρ c]
    rfl
  lin t ht := by
    have h9 : V3 m ρ c main_arg9 = argK m c main_arg9 := W3_args m ρ c main_arg9 (by decide)
    have h10 : V3 m ρ c main_arg10 = argK m c main_arg10 := W3_args m ρ c main_arg10 (by decide)
    have h11 : V3 m ρ c main_arg11 = argK m c main_arg11 := W3_args m ρ c main_arg11 (by decide)
    unfold linOf
    rw [in_w0, in_w1, in_w2, in_bf, h9, h10, h11]
    exact congrArg (Lin.mk _ _ _) (funext fun j => host_v15 m ρ c j)
  wl t ht k := by
    have h13 : V3 m ρ c main_arg13 = argK m c main_arg13 := W3_args m ρ c main_arg13 (by decide)
    rw [in_wl, h13]; rfl
  bl t ht := by rw [in_bl]; exact host_v16 m ρ c
  pos t ht r d := by
    rw [nd ht r]
    exact (in_pos (V3 m ρ) c ht r d).trans (congrArg (fun x => arr (S := S50000x3) x (ix2 _ d)) (W3_args m ρ c main_arg0 (by decide)))

/-- The scratch state after point `n`. -/
theorem scr_at (hl : ∀ n, ∃ r : ℝ, (kin m c).l n = r) : ∀ n < 25,
    At (kin m c).R (kin m c).A (kin m c).wl (kin m c).bl (fun n => (kin m c).pos (Fin.ofNat _ n)) (kin m c).b
      (blk0 m ρ c 0).first.b0 (blk0 m ρ c 0).first.b1 (blk0 m ρ c 0).first.b2 (n + 1) (scrAt (V3 m ρ) c n)
  | 0, _ => at_step hl (blocks m ρ c) (by omega) (at_zero rfl rfl rfl rfl rfl)
  | n + 1, h => at_step hl (blocks m ρ c) h (scr_at hl n (by omega))

/-- A column of the two outputs. -/
theorem out_col (hl : ∀ n, ∃ r : ℝ, (kin m c).l n = r) (g : Fin 512) (j : Fin 484) :
    (scrAt (V3 m ρ) c 24).acc (ix2 g j) * k0_pay2 (scrAt (V3 m ρ) c 24).acc (ix2 g 0) = (kin m c).sum g j := by
  refine out_div hl (scr_at m ρ c hl 24 (by omega)) g j ((kin m c).m g) ((kin m c).den g) (fun r h => ?_) rfl
  have h' : (kin m c).top g = r := h
  unfold Cert.Spec.Inp.m
  rw [h', if_pos]
  exact max_lt (EReal.coe_lt_top r) (by rw [← EReal.coe_neg]; exact EReal.coe_lt_top _)

end Cert.KernelIdeal.Gen
-- ==== Proof.HeadGrid.lean ====
/- The head kernel's grid: at each grid point the sixteen channels' values, their running maximum, and the sum of their
   exponentials against it. -/
module

public import proofs.«01_k».proof.Proof.HeadBody
public import Idealize.ShloMosaic.Lib.Pointwise

@[expose] public section

set_option maxRecDepth 16384
set_option maxHeartbeats 2000000

noncomputable section

namespace Cert.HeadGrid

open Idealize.ShloMosaic Cert.KernelIdeal Cert.KernelIdeal.Gen

variable (a b c d e f g h i : FVec Ideal S128x16 .f32) (y : Vec Ideal S9x1024 .f32) (v m : FVec Ideal S128x1024 .f32)
  (r : Fin 128) (p : Fin 1024)

/-- One channel's nine coefficients and its value at a grid point. -/
def co (n : Fin 16) : Fin 9 → EReal :=
  ![a (ix2 r n), b (ix2 r n), c (ix2 r n), d (ix2 r n), e (ix2 r n), f (ix2 r n), g (ix2 r n), h (ix2 r n), i (ix2 r n)]
def gr (n : Fin 16) : EReal := ∑ k : Fin 9, co a b c d e f g h i r n k * y (ix2 k p)

theorem sum9 (F : Fin 9 → EReal) (n : Fin 16) (hF : ∀ k, F k = co a b c d e f g h i r n k) :
    ∑ k : Fin 9, F k * y (ix2 k p) = gr a b c d e f g h i y r p n :=
  Finset.sum_congr rfl fun k _ => by rw [hF]

theorem maxes_first (x9 : Vec Ideal S32x16 .f32) (x : FVec Ideal S128x32 .f32) (j : FVec Ideal S128x16 .f32) (hj : k1_pay28 j = h) (hx : k1_pay29 x x9 = i) :
    k1_pay30 x a b c d e f g j x9 y (ix2 r p) = max (max (gr a b c d e f g h i y r p 0) (gr a b c d e f g h i y r p 1)) (gr a b c d e f g h i y r p 2) := by
  pointwise [k1_pay30]
  rw [hj, hx]
  refine congrArg₂ max (congrArg₂ max ?_ ?_) ?_ <;> (apply sum9; intro k; fin_cases k <;> rfl)

theorem maxes_mid (j : FVec Ideal S128x16 .f32) (hj : k1_pay28 j = h) :
    k1_pay39 a b c d e f g h i y v (k1_pay31 a) (k1_pay32 b) (k1_pay33 c) (k1_pay34 d) (k1_pay35 e) (k1_pay36 f) (k1_pay37 g) (k1_pay38 j) (ix2 r p)
      = max (max (max (max (max (v (ix2 r p)) (gr a b c d e f g h i y r p 3)) (gr a b c d e f g h i y r p 4)) (gr a b c d e f g h i y r p 5))
        (gr a b c d e f g h i y r p 6)) (gr a b c d e f g h i y r p 7) := by
  subst hj
  pointwise [k1_pay39, k1_pay31, k1_pay32, k1_pay33, k1_pay34, k1_pay35, k1_pay36, k1_pay37, k1_pay38]
  refine congrArg₂ max (congrArg₂ max (congrArg₂ max (congrArg₂ max (congrArg₂ max rfl ?_) ?_) ?_) ?_) ?_ <;> (apply sum9; intro k; fin_cases k <;> rfl)

theorem maxes_late : k1_pay43 a b c d e f g h i y v (k1_pay40 a) (k1_pay41 b) (k1_pay42 c) (ix2 r p)
      = max (max (max (max (v (ix2 r p)) (gr a b c d e f g h i y r p 8)) (gr a b c d e f g h i y r p 9)) (gr a b c d e f g h i y r p 10))
        (gr a b c d e f g h i y r p 11) := by
  pointwise [k1_pay43, k1_pay40, k1_pay41, k1_pay42]
  refine congrArg₂ max (congrArg₂ max (congrArg₂ max (congrArg₂ max rfl ?_) ?_) ?_) ?_ <;> (apply sum9; intro k; fin_cases k <;> rfl)

theorem maxes_last : k1_pay45 a b c d e f g h i y v (k1_pay44 a b c d e f g h i) (constant S128x1024 .f32 0x00000000#32) (ix2 r p)
      = max (max (max (max (v (ix2 r p)) (gr a b c d e f g h i y r p 12)) (gr a b c d e f g h i y r p 13)) (gr a b c d e f g h i y r p 14))
        (gr a b c d e f g h i y r p 15) := by
  pointwise [k1_pay45, k1_pay44]
  refine congrArg₂ max (congrArg₂ max (congrArg₂ max (congrArg₂ max rfl ?_) ?_) ?_) ?_ <;> (apply sum9; intro k; fin_cases k <;> rfl)

/-- One channel's term of the sum of exponentials. -/
def ex (n : Fin 16) : EReal := Ideal.exp (gr a b c d e f g h i y r p n - m (ix2 r p))

theorem ex_congr (s : EReal) (n : Fin 16) (hs : s = gr a b c d e f g h i y r p n) : Ideal.exp (s - m (ix2 r p)) = ex a b c d e f g h i y m r p n := by
  rw [hs]; rfl

theorem sums_first (hm : k1_pay45 a b c d e f g h i y v (k1_pay44 a b c d e f g h i) (constant S128x1024 .f32 0x00000000#32) = m) :
    k1_pay46 a b c d e f g h i y v (k1_pay44 a b c d e f g h i) (constant S128x1024 .f32 0x00000000#32) (ix2 r p) = ex a b c d e f g h i y m r p 0 := by
  pointwise [k1_pay46]
  rw [hm]
  apply ex_congr; apply sum9; intro k; fin_cases k <;> rfl

theorem sums_two : k1_pay49 a b c d e f g h i y m v (k1_pay47 a) (k1_pay48 b) (ix2 r p)
      = v (ix2 r p) + ex a b c d e f g h i y m r p 1 + ex a b c d e f g h i y m r p 2 + ex a b c d e f g h i y m r p 3 + ex a b c d e f g h i y m r p 4 := by
  pointwise [k1_pay49, k1_pay47, k1_pay48]
  refine congrArg₂ (· + ·) (congrArg₂ (· + ·) (congrArg₂ (· + ·) (congrArg₂ (· + ·) rfl ?_) ?_) ?_) ?_ <;> (apply ex_congr; apply sum9; intro k; fin_cases k <;> rfl)

theorem sums_three : k1_pay52 a b c d e f g h i y m v (k1_pay50 a) (k1_pay51 b) (ix2 r p)
      = v (ix2 r p) + ex a b c d e f g h i y m r p 5 + ex a b c d e f g h i y m r p 6 + ex a b c d e f g h i y m r p 7 + ex a b c d e f g h i y m r p 8 := by
  pointwise [k1_pay52, k1_pay50, k1_pay51]
  refine congrArg₂ (· + ·) (congrArg₂ (· + ·) (congrArg₂ (· + ·) (congrArg₂ (· + ·) rfl ?_) ?_) ?_) ?_ <;> (apply ex_congr; apply sum9; intro k; fin_cases k <;> rfl)

theorem sums_four : k1_pay55 a b c d e f g h i y m v (k1_pay53 a) (k1_pay54 b) (ix2 r p)
      = v (ix2 r p) + ex a b c d e f g h i y m r p 9 + ex a b c d e f g h i y m r p 10 + ex a b c d e f g h i y m r p 11 + ex a b c d e f g h i y m r p 12 := by
  pointwise [k1_pay55, k1_pay53, k1_pay54]
  refine congrArg₂ (· + ·) (congrArg₂ (· + ·) (congrArg₂ (· + ·) (congrArg₂ (· + ·) rfl ?_) ?_) ?_) ?_ <;> (apply ex_congr; apply sum9; intro k; fin_cases k <;> rfl)

end Cert.HeadGrid

end
-- ==== Proof.HeadRow.lean ====
/- The head kernel's payloads on one graph's row: the second layer's coefficients, and the three results. -/
module

public import proofs.«01_k».proof.Proof.HeadGrid
public import proofs.«01_k».proof.Proof.Spec

@[expose] public section

set_option maxRecDepth 16384
set_option maxHeartbeats 2000000

noncomputable section

namespace Cert.HeadGrid

open Idealize.ShloMosaic Cert.KernelIdeal Cert.KernelIdeal.Gen Cert.Model Cert.NodeFold Cert.Spec

theorem sup16 (f : Fin 16 → EReal) : Finset.univ.sup f = max (max (max (max (max (max (max (max (max (max (max (max (max (max (max (f 0) (f 1)) (f 2)) (f 3)) (f 4)) (f 5)) (f 6)) (f 7)) (f 8)) (f 9)) (f 10)) (f 11)) (f 12)) (f 13)) (f 14)) (f 15) := by
  apply le_antisymm
  · refine Finset.sup_le fun n _ => ?_
    fin_cases n <;> simp
  · simp only [max_le_iff]
    simp [Finset.le_sup]

theorem sum16 (f : Fin 16 → EReal) : ∑ n, f n = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

section
variable (a b c d e f g h i : FVec Ideal S128x16 .f32) (y : Vec Ideal S9x1024 .f32) (v m : FVec Ideal S128x1024 .f32)
  (r : Fin 128) (p : Fin 1024)

/-- The softmax over a block's rows, and its reading. -/
def softBlk (z : FVec Ideal S128x1024 .f32) : FVec Ideal S128x1024 .f32 :=
  divf (exp (subf z (broadcastTo S128x1024 (shapeCast S128x1 (multiReduction .maximumf [1] S128 z 0xFF800000#32 reduces_S128x1024_S128 (.inl rfl) rfl) shapeCasts_S128_S128x1) broadcasts_S128x1_S128x1024)))
    (broadcastTo S128x1024 (shapeCast S128x1 (multiReduction .add [1] S128
      (exp (subf z (broadcastTo S128x1024 (shapeCast S128x1 (multiReduction .maximumf [1] S128 z 0xFF800000#32 reduces_S128x1024_S128 (.inl rfl) rfl) shapeCasts_S128_S128x1) broadcasts_S128x1_S128x1024)))
      0x00000000#32 reduces_S128x1024_S128 (.inl rfl) rfl) shapeCasts_S128_S128x1) broadcasts_S128x1_S128x1024)

theorem soft_blk (z : FVec Ideal S128x1024 .f32) (f : Fin 1024 → EReal) (hf : ∀ q, z (ix2 r q) = f q) : softBlk z (ix2 r p) = soft f p := by
  rw [show f = fun q => z (ix2 r q) from funext fun q => (hf q).symm]
  unfold softBlk
  pointwise
  rw [inf_bot]
  rfl

theorem last : k1_pay58 a b c d e f g h i y m v (k1_pay56 a) (k1_pay57 b) (ix2 r p)
    = soft (fun q => Ideal.div (Ideal.log (v (ix2 r q) + ex a b c d e f g h i y m r q 13 + ex a b c d e f g h i y m r q 14 + ex a b c d e f g h i y m r q 15)) temp) p := by
  obtain ⟨z, hz, hz'⟩ : ∃ z, k1_pay58 a b c d e f g h i y m v (k1_pay56 a) (k1_pay57 b) = softBlk z
      ∧ ∀ q, z (ix2 r q) = Ideal.div (Ideal.log (v (ix2 r q) + ex a b c d e f g h i y m r q 13 + ex a b c d e f g h i y m r q 14 + ex a b c d e f g h i y m r q 15)) temp := by
    refine ⟨_, rfl, fun q => ?_⟩
    pointwise [k1_pay56, k1_pay57]
    refine congrArg (fun x => Ideal.div (Ideal.log x) temp) (congrArg₂ (· + ·) (congrArg₂ (· + ·) (congrArg₂ (· + ·) rfl ?_) ?_) ?_) <;>
      (apply ex_congr; apply sum9; intro k; fin_cases k <;> rfl)
  rw [hz, soft_blk r p z _ hz']

section
variable (x9 : Vec Ideal S32x16 .f32) (x : FVec Ideal S128x32 .f32) (j : FVec Ideal S128x16 .f32)
/-- The maxima over the first twelve channels, over all sixteen, and the sum over the first thirteen. -/
def tops : FVec Ideal S128x1024 .f32 := (k1_pay43 a b c d e f g h i y (k1_pay39 a b c d e f g h i y (k1_pay30 x a b c d e f g j x9 y) (k1_pay31 a) (k1_pay32 b) (k1_pay33 c) (k1_pay34 d) (k1_pay35 e) (k1_pay36 f) (k1_pay37 g) (k1_pay38 j)) (k1_pay40 a) (k1_pay41 b) (k1_pay42 c))
def all : FVec Ideal S128x1024 .f32 := k1_pay45 a b c d e f g h i y (tops a b c d e f g h i y x9 x j) (k1_pay44 a b c d e f g h i) (constant S128x1024 .f32 0x00000000#32)
def most : FVec Ideal S128x1024 .f32 :=
  k1_pay55 a b c d e f g h i y (all a b c d e f g h i y x9 x j) (k1_pay52 a b c d e f g h i y (all a b c d e f g h i y x9 x j) (k1_pay49 a b c d e f g h i y (all a b c d e f g h i y x9 x j)
    (k1_pay46 a b c d e f g h i y (tops a b c d e f g h i y x9 x j) (k1_pay44 a b c d e f g h i) (constant S128x1024 .f32 0x00000000#32))
    (k1_pay47 a) (k1_pay48 b)) (k1_pay50 a) (k1_pay51 b)) (k1_pay53 a) (k1_pay54 b)

variable (hj : k1_pay28 j = h) (hx : k1_pay29 x x9 = i)
include hj hx
theorem all_sup : all a b c d e f g h i y x9 x j (ix2 r p) = Finset.univ.sup fun n => gr a b c d e f g h i y r p n := by
  unfold all tops
  rw [maxes_last, maxes_late, maxes_mid _ _ _ _ _ _ _ _ _ _ _ _ _ j hj, maxes_first _ _ _ _ _ _ _ _ _ _ _ _ x9 x j hj hx, sup16]

theorem whole : k1_pay58 a b c d e f g h i y (all a b c d e f g h i y x9 x j) (most a b c d e f g h i y x9 x j) (k1_pay56 a) (k1_pay57 b) (ix2 r p)
    = soft (fun q => Ideal.div (Ideal.log (∑ n, Ideal.exp (gr a b c d e f g h i y r q n - Finset.univ.sup fun n => gr a b c d e f g h i y r q n))) temp) p := by
  rw [last]
  refine congrArg (fun f => soft f p) (funext fun q => congrArg (fun x => Ideal.div (Ideal.log x) temp) ?_)
  unfold most
  rw [sums_four, sums_three, sums_two, sums_first (hm := rfl), sum16]
  have hs := all_sup a b c d e f g h i y r q x9 x j hj hx
  unfold ex
  rw [show k1_pay45 a b c d e f g h i y (tops a b c d e f g h i y x9 x j) (k1_pay44 a b c d e f g h i) (constant S128x1024 .f32 0x00000000#32) = all a b c d e f g h i y x9 x j from rfl, hs]
end
end

section
variable (x0 : Vec Ideal S128x480 .f32) (x1 : Vec Ideal S128x3 .f32) (x2 : Vec Ideal S128x3 .f32) (x3 : Vec Ideal S128x224 .f32) (x4 : Vec Ideal S64x64 .f32) (x5 : Vec Ideal S32x32 .f32) (x6 : Vec Ideal S1x224 .f32) (x7 : Vec Ideal S128x16 .f32) (x8 : Vec Ideal S64x16 .f32) (x9 : Vec Ideal S32x16 .f32) (x10 : Vec Ideal S1x16 .f32) (x11 : Vec Ideal S9x1024 .f32)
  (r : Fin 128)

/-- A graph's row, and the layer's weights. -/
def rowK : Row where
  x0 k := x0 (ix2 r ⟨k.val, by omega⟩)
  x1 m d := x0 (ix2 r ⟨128 + (64 * d.val + m.val), by omega⟩)
  x2 m d := x0 (ix2 r ⟨320 + (32 * d.val + m.val), by omega⟩)
def headK : Head where
  A := ⟨fun k j => x3 (ix2 k j), fun k j => x4 (ix2 k j), fun k j => x5 (ix2 k j), fun j => x6 (ix2 0 j)⟩
  P0 k j := x7 (ix2 k j)
  P1 k j := x8 (ix2 k j)
  P2 k j := x9 (ix2 k j)
  pb c := x10 (ix2 0 c)
  Y k p := x11 (ix2 k p)

theorem mid (j : Fin 224) : k1_pay3 x0 x3 x6 (ix2 r j) = (rowK x0 r).o0 (headK x3 x4 x5 x6 x7 x8 x9 x10 x11).A j := by
  pointwise [k1_pay3, k1_pay2]
  rfl

theorem c0 (c : Fin 16) : k1_pay20 (k1_pay18 (k1_pay3 x0 x3 x6) x7) (k1_pay19 (F := Ideal)) x10 (ix2 r c) = (headK x3 x4 x5 x6 x7 x8 x9 x10 x11).p0 (rowK x0 r) c := by
  have h := mid x0 x3 x4 x5 x6 x7 x8 x9 x10 x11 r
  pointwise [k1_pay20, k1_pay18, k1_pay19]
  simp only [h]
  rfl
theorem c1_0 (c : Fin 16) : k1_pay21 (k1_pay10 (k1_pay3 x0 x3 x6) (k1_pay4 x0 x4)) x8 (ix2 r c) = (headK x3 x4 x5 x6 x7 x8 x9 x10 x11).p1 (rowK x0 r) c 0 := by
  have h := mid x0 x3 x4 x5 x6 x7 x8 x9 x10 x11 r
  pointwise [k1_pay21, k1_pay10, k1_pay4, k1_pay9, k1_pay2]
  simp only [h]
  rfl
theorem c1_1 (c : Fin 16) : k1_pay22 (k1_pay11 (k1_pay3 x0 x3 x6) (k1_pay5 x0 x4)) x8 (ix2 r c) = (headK x3 x4 x5 x6 x7 x8 x9 x10 x11).p1 (rowK x0 r) c 1 := by
  have h := mid x0 x3 x4 x5 x6 x7 x8 x9 x10 x11 r
  pointwise [k1_pay22, k1_pay11, k1_pay5, k1_pay9, k1_pay2]
  simp only [h]
  rfl
theorem c1_2 (c : Fin 16) : k1_pay23 (k1_pay12 (k1_pay3 x0 x3 x6) (k1_pay6 x0 x4)) x8 (ix2 r c) = (headK x3 x4 x5 x6 x7 x8 x9 x10 x11).p1 (rowK x0 r) c 2 := by
  have h := mid x0 x3 x4 x5 x6 x7 x8 x9 x10 x11 r
  pointwise [k1_pay23, k1_pay12, k1_pay6, k1_pay9, k1_pay2]
  simp only [h]
  rfl
theorem c2_0 (c : Fin 16) : k1_pay24 (k1_pay13 (k1_pay3 x0 x3 x6) (k1_pay7 x0 x5)) x9 (ix2 r c) = (headK x3 x4 x5 x6 x7 x8 x9 x10 x11).p2 (rowK x0 r) c 0 := by
  have h := mid x0 x3 x4 x5 x6 x7 x8 x9 x10 x11 r
  pointwise [k1_pay24, k1_pay13, k1_pay7, k1_pay9, k1_pay2]
  simp only [h]
  rfl
theorem c2_1 (c : Fin 16) : k1_pay25 (k1_pay14 (k1_pay3 x0 x3 x6) (k1_pay8 x0) x5) x9 (ix2 r c) = (headK x3 x4 x5 x6 x7 x8 x9 x10 x11).p2 (rowK x0 r) c 1 := by
  have h := mid x0 x3 x4 x5 x6 x7 x8 x9 x10 x11 r
  pointwise [k1_pay25, k1_pay14, k1_pay8, k1_pay9, k1_pay2]
  simp only [h]
  rfl
theorem c2_2 (c : Fin 16) : k1_pay26 (k1_pay15 (k1_pay2 x0) (k1_pay3 x0 x3 x6) x5) x9 (ix2 r c) = (headK x3 x4 x5 x6 x7 x8 x9 x10 x11).p2 (rowK x0 r) c 2 := by
  have h := mid x0 x3 x4 x5 x6 x7 x8 x9 x10 x11 r
  pointwise [k1_pay26, k1_pay15, k1_pay9, k1_pay2]
  simp only [h]
  rfl
theorem c2_3 (c : Fin 16) : k1_pay28 (k1_pay27 (k1_pay16 (k1_pay2 x0) (k1_pay3 x0 x3 x6) x5) x9) (ix2 r c) = (headK x3 x4 x5 x6 x7 x8 x9 x10 x11).p2 (rowK x0 r) c 3 := by
  have h := mid x0 x3 x4 x5 x6 x7 x8 x9 x10 x11 r
  pointwise [k1_pay28, k1_pay27, k1_pay16, k1_pay9, k1_pay2]
  simp only [h]
  rfl
theorem c2_4 (c : Fin 16) : k1_pay29 (k1_pay17 (k1_pay2 x0) (k1_pay3 x0 x3 x6) x5) x9 (ix2 r c) = (headK x3 x4 x5 x6 x7 x8 x9 x10 x11).p2 (rowK x0 r) c 4 := by
  have h := mid x0 x3 x4 x5 x6 x7 x8 x9 x10 x11 r
  pointwise [k1_pay29, k1_pay17, k1_pay9, k1_pay2]
  simp only [h]
  rfl

theorem z2 : (![0, 0] : Fin 2 → ℕ) = fun _ => 0 := by funext a; fin_cases a <;> rfl

/-- The coefficients of the body's own run. -/
theorem coefs (n : Fin 16) : co (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) r n = (headK x3 x4 x5 x6 x7 x8 x9 x10 x11).coef (rowK x0 r) n := by
  unfold k1_pay75 k1_pay76 k1_pay77 k1_pay78 k1_pay79 k1_pay80 k1_pay81 k1_pay83 k1_pay82 k1_pay84 k1_pay74 k1_pay73 k1_pay72
  simp only [View.ld_unit_zero (Val := Elt Ideal) (S := S128x480) z2, View.ld_unit_zero (Val := Elt Ideal) (S := S64x64) z2, View.ld_unit_zero (Val := Elt Ideal) (S := S32x32) z2, View.ld_unit_zero (Val := Elt Ideal) (S := S128x224) z2, View.ld_unit_zero (Val := Elt Ideal) (S := S1x224) z2, View.ld_unit_zero (Val := Elt Ideal) (S := S128x16) z2, View.ld_unit_zero (Val := Elt Ideal) (S := S1x16) z2, View.ld_unit_zero (Val := Elt Ideal) (S := S64x16) z2, View.ld_unit_zero (Val := Elt Ideal) (S := S32x16) z2]
  funext k
  unfold co Head.coef
  fin_cases k
  · exact c0 x0 x3 x4 x5 x6 x7 x8 x9 x10 x11 r n
  · exact c1_0 x0 x3 x4 x5 x6 x7 x8 x9 x10 x11 r n
  · exact c1_1 x0 x3 x4 x5 x6 x7 x8 x9 x10 x11 r n
  · exact c1_2 x0 x3 x4 x5 x6 x7 x8 x9 x10 x11 r n
  · exact c2_0 x0 x3 x4 x5 x6 x7 x8 x9 x10 x11 r n
  · exact c2_1 x0 x3 x4 x5 x6 x7 x8 x9 x10 x11 r n
  · exact c2_2 x0 x3 x4 x5 x6 x7 x8 x9 x10 x11 r n
  · exact c2_3 x0 x3 x4 x5 x6 x7 x8 x9 x10 x11 r n
  · exact c2_4 x0 x3 x4 x5 x6 x7 x8 x9 x10 x11 r n

theorem out_dist (p : Fin 1024) : out1_12 x0 x1 x2 x3 x4 x5 x6 x7 x8 x9 x10 x11 (ix2 r p) = (headK x3 x4 x5 x6 x7 x8 x9 x10 x11).res (rowK x0 r) p := by
  unfold out1_12
  rw [View.canon_unit_zero (Val := Elt Ideal) z2]
  refine (whole (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) r p (View.ld x9 r1_8) (k1_pay74 x0 x1 x2 x3 x4 x5 x6 x7 x8 x9 x10 x11) (k1_pay82 x0 x1 x2 x3 x4 x5 x6 x7 x8 x9 x10 x11) rfl rfl).trans ?_
  have hg : ∀ q n, gr (k1_pay75 x0 x1 x2 x3 x4 x5 x6 x7 x8 x9 x10 x11) (k1_pay76 x0 x1 x2 x3 x4 x5 x6 x7 x8 x9 x10 x11) (k1_pay77 x0 x1 x2 x3 x4 x5 x6 x7 x8 x9 x10 x11) (k1_pay78 x0 x1 x2 x3 x4 x5 x6 x7 x8 x9 x10 x11) (k1_pay79 x0 x1 x2 x3 x4 x5 x6 x7 x8 x9 x10 x11) (k1_pay80 x0 x1 x2 x3 x4 x5 x6 x7 x8 x9 x10 x11) (k1_pay81 x0 x1 x2 x3 x4 x5 x6 x7 x8 x9 x10 x11) (k1_pay83 x0 x1 x2 x3 x4 x5 x6 x7 x8 x9 x10 x11) (k1_pay84 x0 x1 x2 x3 x4 x5 x6 x7 x8 x9 x10 x11) (View.ld x11 r1_9) r q n = (headK x3 x4 x5 x6 x7 x8 x9 x10 x11).grid (rowK x0 r) n q := fun q n => by
    unfold gr Head.grid
    rw [coefs, View.ld_unit_zero (Val := Elt Ideal) z2]
    rfl
  simp only [hg]
  rfl

def vecK (d : Fin 3) : EReal := x2 (ix2 r d) - x1 (ix2 r d)

theorem out_label (p : Fin 1024) : out1_13 x0 x1 x2 x3 x4 x5 x6 x7 x8 x9 x10 x11 (ix2 r p) = soft (fun p => Ideal.div (∑ k, sh (vecK x1 x2 r) k * x11 (ix2 k p)) temp) p := by
  unfold out1_13
  rw [View.canon_unit_zero (Val := Elt Ideal) z2]
  simp only [View.ld_unit_zero (Val := Elt Ideal) (S := S9x1024) z2, View.ld_unit_zero (Val := Elt Ideal) (S := S128x3) z2]
  obtain ⟨z, hz, hz'⟩ : ∃ z, k1_pay1 x11 (k1_pay60 x2 x1) (k1_pay61 x2 x1) (k1_pay64 (F := Ideal)) (k1_pay65 x2 x1) (k1_pay66 x2 x1) (k1_pay67 x2 x1) (k1_pay68 x2 x1)
      (k1_pay69 x2 x1) (k1_pay70 x2 x1) (k1_pay71 x2 x1) = softBlk z ∧ ∀ q, z (ix2 r q) = Ideal.div (∑ k, sh (vecK x1 x2 r) k * x11 (ix2 k q)) temp := by
    refine ⟨_, rfl, fun q => ?_⟩
    pointwise [k1_pay59, k1_pay60, k1_pay61, k1_pay62, k1_pay64, k1_pay65, k1_pay66, k1_pay67, k1_pay68, k1_pay69, k1_pay70, k1_pay71]
    refine congrArg (Ideal.div · temp) (Finset.sum_congr rfl fun k _ => ?_)
    fin_cases k <;> rfl
  rw [hz, soft_blk r p z _ hz']

theorem out_len : out1_14 x0 x1 x2 x3 x4 x5 x6 x7 x8 x9 x10 x11 (ix2 r 0) = len (vecK x1 x2 r) := by
  unfold out1_14
  rw [View.canon_unit_zero (Val := Elt Ideal) z2]
  simp only [View.ld_unit_zero (Val := Elt Ideal) (S := S128x3) z2]
  pointwise [k1_pay63, k1_pay59, k1_pay60, k1_pay61, k1_pay62]
  rfl
end
end Cert.HeadGrid

end
-- ==== Proof.HeadVals.lean ====
/- What the two kernels leave in their output arrays, each entry from the input arrays' entries. -/
module
public import proofs.«01_k».proof.Proof.NodeIn
public import proofs.«01_k».proof.Proof.HeadRow
public import proofs.«01_k».proof.Proof.RefRead
@[expose] public section
set_option maxRecDepth 16384
noncomputable section
namespace Cert.KernelIdeal.Gen
open Idealize.ShloMosaic Idealize.ShloMosaic.TcCoe Idealize.ShloMosaic.Pipeline Cert.HeadGrid Cert.Spec Cert.Model

variable (V : (c : Dev nD) → (b : Ref sig .tc) → Buf (Elt Ideal) ((c : Thread nD τ).loc b)) (c : Dev nD)

theorem arr_gf : (dat0 V c).arrAt 19 cfg0.N = k0_pay3 (scrAt V c 24).acc := by
  refine (dat0 V c).arrAt_eq_of_after_last 19 (pt 24) (by decide +kernel) _ fun j => ?_
  blk_simp
  dsimp only [dat0]
  rfl
theorem arr_ctr : (dat0 V c).arrAt 20 cfg0.N = k0_pay4 (scrAt V c 24).acc := by
  refine (dat0 V c).arrAt_eq_of_after_last 20 (pt 24) (by decide +kernel) _ fun j => ?_
  blk_simp
  dsimp only [dat0]
  rfl

theorem idx1_row : ∀ t, win1_0.index t = ![t.val, 0] ∧ win1_1.index t = ![t.val, 0] ∧ win1_2.index t = ![t.val, 0] ∧ win1_12.index t = ![t.val, 0] ∧
    win1_13.index t = ![t.val, 0] ∧ win1_14.index t = ![t.val, 0] := by decide +kernel
theorem idx1_whole : ∀ t, win1_3.index t = ![0, 0] ∧ win1_4.index t = ![0, 0] ∧ win1_5.index t = ![0, 0] ∧ win1_6.index t = ![0, 0] ∧
    win1_7.index t = ![0, 0] ∧ win1_8.index t = ![0, 0] ∧ win1_9.index t = ![0, 0] ∧ win1_10.index t = ![0, 0] ∧ win1_11.index t = ![0, 0] := by decide +kernel

/-- The row of the array that row `r` of block `t` is. -/
def at128 (t : Fin cfg1.N) (r : Fin 128) : Fin 512 := ⟨128 * t.val + r.val, by have := t.isLt; have : cfg1.N = 4 := N_1; omega⟩

theorem hd_gf (t : Fin cfg1.N) (r : Fin 128) (k : Fin 480) : (iblk1 V c 0 t : Vec Ideal S128x480 .f32) (ix2 r k) = (V c main_v17_0 : Vec Ideal S512x480 .f32) (ix2 (at128 t r) k) := by
  show V c main_v17_0 ((win1_0.blk t).view.emb (ix2 r k)) = _
  exact congrArg (V c main_v17_0) (by blk_ext [idx1_row t, at128])
theorem hd_ctr (t : Fin cfg1.N) (r : Fin 128) (k : Fin 3) : (iblk1 V c 1 t : Vec Ideal S128x3 .f32) (ix2 r k) = (V c main_v17_1 : Vec Ideal S512x3 .f32) (ix2 (at128 t r) k) := by
  show V c main_v17_1 ((win1_1.blk t).view.emb (ix2 r k)) = _
  exact congrArg (V c main_v17_1) (by blk_ext [idx1_row t, at128])
theorem hd_pos (t : Fin cfg1.N) (r : Fin 128) (k : Fin 3) : (iblk1 V c 2 t : Vec Ideal S128x3 .f32) (ix2 r k) = (V c main_arg4 : Vec Ideal S512x3 .f32) (ix2 (at128 t r) k) := by
  show V c main_arg4 ((win1_2.blk t).view.emb (ix2 r k)) = _
  exact congrArg (V c main_arg4) (by blk_ext [idx1_row t, at128])
theorem hd_w0 (t : Fin cfg1.N) : (iblk1 V c 3 t : Vec Ideal S128x224 .f32) = V c main_arg15 := funext fun y => congrArg (V c main_arg15) (by blk_ext [idx1_whole t])
theorem hd_w1 (t : Fin cfg1.N) : (iblk1 V c 4 t : Vec Ideal S64x64 .f32) = V c main_arg16 := funext fun y => congrArg (V c main_arg16) (by blk_ext [idx1_whole t])
theorem hd_w2 (t : Fin cfg1.N) : (iblk1 V c 5 t : Vec Ideal S32x32 .f32) = V c main_arg17 := funext fun y => congrArg (V c main_arg17) (by blk_ext [idx1_whole t])
theorem hd_b (t : Fin cfg1.N) : (iblk1 V c 6 t : Vec Ideal S1x224 .f32) = V c main_v18 := funext fun y => congrArg (V c main_v18) (by blk_ext [idx1_whole t])
theorem hd_p0 (t : Fin cfg1.N) : (iblk1 V c 7 t : Vec Ideal S128x16 .f32) = V c main_arg19 := funext fun y => congrArg (V c main_arg19) (by blk_ext [idx1_whole t])
theorem hd_p1 (t : Fin cfg1.N) : (iblk1 V c 8 t : Vec Ideal S64x16 .f32) = V c main_arg20 := funext fun y => congrArg (V c main_arg20) (by blk_ext [idx1_whole t])
theorem hd_p2 (t : Fin cfg1.N) : (iblk1 V c 9 t : Vec Ideal S32x16 .f32) = V c main_arg21 := funext fun y => congrArg (V c main_arg21) (by blk_ext [idx1_whole t])
theorem hd_pb (t : Fin cfg1.N) : (iblk1 V c 10 t : Vec Ideal S1x16 .f32) = V c main_v19 := funext fun y => congrArg (V c main_v19) (by blk_ext [idx1_whole t])
theorem hd_y (t : Fin cfg1.N) : (iblk1 V c 11 t : Vec Ideal S9x1024 .f32) = V c main_cst_1 := funext fun y => congrArg (V c main_cst_1) (by blk_ext [idx1_whole t])

/-- The head's inputs at the arrays: a graph's row of sums, the weights, and the vector to the mask. -/
def rowV (g : Fin 512) : Row where
  x0 k := (V c main_v17_0 : Vec Ideal S512x480 .f32) (ix2 g ⟨k.val, by omega⟩)
  x1 m d := (V c main_v17_0 : Vec Ideal S512x480 .f32) (ix2 g ⟨128 + (64 * d.val + m.val), by omega⟩)
  x2 m d := (V c main_v17_0 : Vec Ideal S512x480 .f32) (ix2 g ⟨320 + (32 * d.val + m.val), by omega⟩)
def headV : Head := headK (V c main_arg15) (V c main_arg16) (V c main_arg17) (V c main_v18) (V c main_arg19) (V c main_arg20) (V c main_arg21) (V c main_v19) (V c main_cst_1)
def vecV (g : Fin 512) (d : Fin 3) : EReal := Cert.RefRead.arr (S := S512x3) (V c main_arg4) (ix2 g d) - Cert.RefRead.arr (S := S512x3) (V c main_v17_1) (ix2 g d)

theorem head_at (t : Fin cfg1.N) : headK (iblk1 V c 3 t) (iblk1 V c 4 t) (iblk1 V c 5 t) (iblk1 V c 6 t) (iblk1 V c 7 t) (iblk1 V c 8 t) (iblk1 V c 9 t) (iblk1 V c 10 t) (iblk1 V c 11 t) = headV V c := by
  rw [hd_w0, hd_w1, hd_w2, hd_b, hd_p0, hd_p1, hd_p2, hd_pb, hd_y]; rfl
theorem row_at (t : Fin cfg1.N) (r : Fin 128) : rowK (iblk1 V c 0 t) r = rowV V c (at128 t r) := by
  unfold rowK rowV; simp only [hd_gf]
theorem vec_at (t : Fin cfg1.N) (r : Fin 128) : vecK (iblk1 V c 1 t) (iblk1 V c 2 t) r = vecV V c (at128 t r) := by
  unfold vecK vecV; simp only [hd_ctr, hd_pos]

theorem arr_dist (G : Vec Ideal S512x1024 .f32) (hG : ∀ g p, G (ix2 g p) = (headV V c).res (rowV V c g) p) : (dat1 V c).arrAt 12 cfg1.N = G := by
  refine (dat1 V c).arrAt_eq_of_covers 12 _ (by decide +kernel) fun t hf y => ?_
  blk_simp
  have e : ∀ (r : Fin 128) (p : Fin 1024), (win1_12.blk t).view.emb (ix2 r p) = ix2 (at128 t r) p := fun r p => by blk_ext [idx1_row t, at128]
  rw [after1_12]
  obtain ⟨r, p, rfl⟩ : ∃ (r : Fin 128) (p : Fin 1024), y = ix2 r p := ⟨y 0, y 1, (ix2_eta y).symm⟩
  exact (out_dist _ _ _ _ _ _ _ _ _ _ _ _ r p).trans (by rw [head_at, row_at]; exact (hG _ _).symm.trans (congrArg G (e r p)).symm)
theorem arr_label (G : Vec Ideal S512x1024 .f32)
    (hG : ∀ g p, G (ix2 g p) = soft (fun p => Ideal.div (∑ k, sh (vecV V c g) k * Cert.RefRead.arr (S := S9x1024) (V c main_cst_1) (ix2 k p)) temp) p) :
    (dat1 V c).arrAt 13 cfg1.N = G := by
  refine (dat1 V c).arrAt_eq_of_covers 13 _ (by decide +kernel) fun t hf y => ?_
  blk_simp
  have e : ∀ (r : Fin 128) (p : Fin 1024), (win1_13.blk t).view.emb (ix2 r p) = ix2 (at128 t r) p := fun r p => by blk_ext [idx1_row t, at128]
  rw [after1_13]
  obtain ⟨r, p, rfl⟩ : ∃ (r : Fin 128) (p : Fin 1024), y = ix2 r p := ⟨y 0, y 1, (ix2_eta y).symm⟩
  exact (out_label _ _ _ _ _ _ _ _ _ _ _ _ r p).trans (by rw [vec_at, hd_y]; exact (hG _ _).symm.trans (congrArg G (e r p)).symm)
theorem arr_len (G : Vec Ideal S512x1 .f32) (hG : ∀ g, G (ix2 g 0) = len (vecV V c g)) : (dat1 V c).arrAt 14 cfg1.N = G := by
  refine (dat1 V c).arrAt_eq_of_covers 14 _ (by decide +kernel) fun t hf y => ?_
  blk_simp
  have e : ∀ (r : Fin 128) (p : Fin 1), (win1_14.blk t).view.emb (ix2 r p) = ix2 (at128 t r) p := fun r p => by blk_ext [idx1_row t, at128]
  rw [after1_14]
  obtain ⟨r, p, rfl⟩ : ∃ (r : Fin 128) (p : Fin 1), y = ix2 r p := ⟨y 0, y 1, (ix2_eta y).symm⟩
  obtain rfl : p = 0 := Subsingleton.elim _ _
  exact (out_len _ _ _ _ _ _ _ _ _ _ _ _ r).trans (by rw [vec_at]; exact (hG _).symm.trans (congrArg G (e r 0)).symm)

end Cert.KernelIdeal.Gen
-- ==== Proof.Results.lean ====
/- What the kernel's three results hold, as the plain functions of its arguments. -/
module
public import proofs.«01_k».proof.Proof.NodeVals
public import proofs.«01_k».proof.Proof.HeadVals
@[expose] public section
set_option maxRecDepth 16384
noncomputable section
namespace Cert.KernelIdeal.Gen
open Idealize.ShloMosaic Idealize.ShloMosaic.TcCoe Idealize.ShloMosaic.Pipeline Cert.Model Cert.NodeFold Cert.KernelRow Cert.Spec Cert.HeadGrid
open Cert.RefRead (arr arrI)

variable (m : (ℓ : Loc nD τ sig) → Buf (Elt Ideal) ℓ) (ρ : Dev nD → PrngReg) (c : Dev nD)
  (hl : ∀ n, ∃ r : ℝ, (kin m c).l n = r)

theorem v5_gf : V5 m ρ c main_v17_0 = k0_pay3 (scrAt (V3 m ρ) c 24).acc :=
  (W5_of m ρ c main_v17_0 (by decide)).trans ((W4_arr m ρ c 19).trans (arr_gf (V3 m ρ) c))
theorem v5_ctr : V5 m ρ c main_v17_1 = k0_pay4 (scrAt (V3 m ρ) c 24).acc :=
  (W5_of m ρ c main_v17_1 (by decide)).trans ((W4_arr m ρ c 20).trans (arr_ctr (V3 m ρ) c))

theorem pay3_apply (x : Vec Ideal S512x484 .f32) (g : Fin 512) (k : Fin 480) :
    k0_pay3 x (ix2 g k) = x (ix2 g ⟨k.val, by omega⟩) * k0_pay2 x (ix2 g 0) := by
  pointwise [k0_pay3]
theorem pay4_apply (x : Vec Ideal S512x484 .f32) (g : Fin 512) (k : Fin 3) :
    k0_pay4 x (ix2 g k) = x (ix2 g ⟨480 + k.val, by omega⟩) * k0_pay2 x (ix2 g 0) := by
  pointwise [k0_pay4]

theorem host_v18 (j : Fin 224) : arr (S := S1x224) (V5 m ρ c main_v18) (ix2 0 j) = arr (S := S224) (argK m c main_arg18) (ix1 j) := by
  have h : W4 m ρ c (Proc.devRef .tc main_arg18) = argK m c main_arg18 := W4_args m ρ c main_arg18 (by decide)
  rw [← h]
  show StableHlo.after hostOps1 (W4 m ρ c) _ _ = _
  entry_read
  pointwise
theorem host_v19 (j : Fin 16) : arr (S := S1x16) (V5 m ρ c main_v19) (ix2 0 j) = arr (S := S16) (argK m c main_arg22) (ix1 j) := by
  have h : W4 m ρ c (Proc.devRef .tc main_arg22) = argK m c main_arg22 := W4_args m ρ c main_arg22 (by decide)
  rw [← h]
  show StableHlo.after hostOps1 (W4 m ρ c) _ _ = _
  entry_read
  pointwise
theorem host_y (k : Fin 9) (p : Fin 1024) : arr (S := S9x1024) (V5 m ρ c main_cst_1) (ix2 k p) = (kin m c).Y k p := by
  have h : V5 m ρ c main_cst_1 = V3 m ρ c main_cst_1 :=
    (W5_of m ρ c main_cst_1 (by decide)).trans (W4_of_ne m ρ c main_cst_1 (by decide))
  rw [h]
  show StableHlo.after hostOps0_2 (StableHlo.after hostOps0_1 (StableHlo.after hostOps0 (W0 m ρ c))) _ _ = _
  entry_read
  rfl

include hl in
theorem gf_col (g : Fin 512) (k : Fin 480) : arr (S := S512x480) (V5 m ρ c main_v17_0) (ix2 g k) = (kin m c).sum g ⟨k.val, by omega⟩ := by
  rw [v5_gf]
  exact (pay3_apply _ g k).trans (out_col m ρ c hl g _)
include hl in
theorem ctr_col (g : Fin 512) (d : Fin 3) : arr (S := S512x3) (V5 m ρ c main_v17_1) (ix2 g d) = (kin m c).ctr g d := by
  rw [v5_ctr]
  exact (pay4_apply _ g d).trans (out_col m ρ c hl g _)

include hl in
theorem row_in (g : Fin 512) : rowV (V5 m ρ) c g = (kin m c).G g := by
  have h := gf_col m ρ c hl g
  unfold arr at h
  unfold rowV Inp.G
  simp only [h]
include hl in
theorem vec_in (g : Fin 512) : vecV (V5 m ρ) c g = (kin m c).away g := by
  have h4 : V5 m ρ c main_arg4 = argK m c main_arg4 := W5_args m ρ c main_arg4 (by decide)
  funext d
  unfold vecV
  rw [h4, ctr_col m ρ c hl g d]
  rfl
theorem head_in : headV (V5 m ρ) c = (kin m c).head := by
  have e15 : V5 m ρ c main_arg15 = argK m c main_arg15 := W5_args m ρ c main_arg15 (by decide)
  have e16 : V5 m ρ c main_arg16 = argK m c main_arg16 := W5_args m ρ c main_arg16 (by decide)
  have e17 : V5 m ρ c main_arg17 = argK m c main_arg17 := W5_args m ρ c main_arg17 (by decide)
  have e19 : V5 m ρ c main_arg19 = argK m c main_arg19 := W5_args m ρ c main_arg19 (by decide)
  have e20 : V5 m ρ c main_arg20 = argK m c main_arg20 := W5_args m ρ c main_arg20 (by decide)
  have e21 : V5 m ρ c main_arg21 = argK m c main_arg21 := W5_args m ρ c main_arg21 (by decide)
  have h18 := host_v18 m ρ c
  have h19 := host_v19 m ρ c
  have hy := host_y m ρ c
  unfold arr at h18 h19 hy
  unfold headV headK
  rw [e15, e16, e17, e19, e20, e21]
  simp only [h18, h19, hy]
  rfl

/-- The three results, as arrays. -/
def distA (I : Inp) : Vec Ideal S512x1024 .f32 := fun i => I.dist (i 0) (i 1)
def labelA (I : Inp) : Vec Ideal S512x1024 .f32 := fun i => I.label (i 0) (i 1)
def lengthA (I : Inp) : Vec Ideal S512x1 .f32 := fun i => I.length (i 0)

include hl in
theorem w6_dist : W6 m ρ c (Proc.devRef .tc main_v20_0) = distA (kin m c) :=
  (W6_arr m ρ c 12).trans (arr_dist (V5 m ρ) c _ fun g p => by rw [head_in m ρ c, row_in m ρ c hl]; rfl)
include hl in
theorem w6_label : W6 m ρ c (Proc.devRef .tc main_v20_1) = labelA (kin m c) :=
  (W6_arr m ρ c 13).trans (arr_label (V5 m ρ) c _ fun g p => by
    rw [vec_in m ρ c hl]
    simp only [host_y m ρ c]
    rfl)
include hl in
theorem w6_len : W6 m ρ c (Proc.devRef .tc main_v20_2) = lengthA (kin m c) :=
  (W6_arr m ρ c 14).trans (arr_len (V5 m ρ) c _ fun g => by rw [vec_in m ρ c hl]; rfl)

end Cert.KernelIdeal.Gen
-- ==== Proof.Ranges.lean ====
/- What the precondition gives: real gates and logits. -/
module
public import proofs.«01_k».proof.Defs
public import proofs.«01_k».proof.Proof.HostIn
@[expose] public section
set_option maxRecDepth 16384
noncomputable section
namespace Cert.KernelIdeal.Gen
open Idealize.ShloMosaic Idealize.ShloMosaic.TcCoe Cert.Model Cert.NodeFold
open Cert.RefRead (arr arrI)

section
open Cert.Pre_ranges (fn S50000x3 S50000x480 S512x480 S512 S512x3 S50000 S64x128 S128 S128x224 S64x64 S32x32 S224 S128x1 S1 S128x16 S64x16 S32x16 S16)
variable [Cert.Pre_ranges.Facts] (a0 : FVec Ideal S50000x3 .f32) (a1 : FVec Ideal S50000x480 .f32) (a2 : FVec Ideal S512x480 .f32) (a3 : IVec S512 32)
  (a4 : FVec Ideal S512x3 .f32) (a5 : IVec S50000 32) (a6 : FVec Ideal S512 .f32) (a7 : FVec Ideal S64x128 .f32) (a8 : FVec Ideal S128 .f32)
  (a9 : FVec Ideal S128x224 .f32) (a10 : FVec Ideal S64x64 .f32) (a11 : FVec Ideal S32x32 .f32) (a12 : FVec Ideal S224 .f32) (a13 : FVec Ideal S128x1 .f32)
  (a14 : FVec Ideal S1 .f32) (a15 : FVec Ideal S128x224 .f32) (a16 : FVec Ideal S64x64 .f32) (a17 : FVec Ideal S32x32 .f32) (a18 : FVec Ideal S224 .f32)
  (a19 : FVec Ideal S128x16 .f32) (a20 : FVec Ideal S64x16 .f32) (a21 : FVec Ideal S32x16 .f32) (a22 : FVec Ideal S16 .f32)

theorem real_of_abs {x : Ideal .f32} (h : BitVec.ofBool (decide (FloatOps.absf x < Ideal.ofBits FTy.f32 0x7F800000#32)) = 1#1) : ∃ r : ℝ, x = r := by
  have ht : Ideal.ofBits FTy.f32 0x7F800000#32 = ⊤ := by simp [Ideal.ofBits, Ideal.ieee]
  have h' : max x (-x) < (⊤ : EReal) := by
    rw [ht] at h
    by_contra hn
    rw [show decide (FloatOps.absf x < (⊤ : EReal)) = false from decide_eq_false hn] at h
    exact absurd h (by decide)
  induction x using EReal.rec with
  | bot => simp at h'
  | coe r => exact ⟨r, rfl⟩
  | top => simp at h'
theorem pre_w0 (k j : Fin 128) (h : (fn a0 a1 a2 a3 a4 a5 a6 a7 a8 a9 a10 a11 a12 a13 a14 a15 a16 a17 a18 a19 a20 a21 a22).1 (ix2 k j) = 1#1) :
    ∃ r : ℝ, a9 (ix2 k ⟨j.val, by omega⟩) = r := by
  revert h
  pointwise [fn]
  exact real_of_abs
theorem pre_b (j : Fin 128) (h : (fn a0 a1 a2 a3 a4 a5 a6 a7 a8 a9 a10 a11 a12 a13 a14 a15 a16 a17 a18 a19 a20 a21 a22).2.1 (ix1 j) = 1#1) :
    ∃ r : ℝ, a12 (ix1 ⟨j.val, by omega⟩) = r := by
  revert h
  pointwise [fn]
  exact real_of_abs
theorem pre_wl (k : Fin 128) (h : (fn a0 a1 a2 a3 a4 a5 a6 a7 a8 a9 a10 a11 a12 a13 a14 a15 a16 a17 a18 a19 a20 a21 a22).2.2.1 (ix2 k 0) = 1#1) :
    ∃ r : ℝ, a13 (ix2 k 0) = r := by
  revert h
  pointwise [fn]
  exact real_of_abs
theorem pre_bl (h : (fn a0 a1 a2 a3 a4 a5 a6 a7 a8 a9 a10 a11 a12 a13 a14 a15 a16 a17 a18 a19 a20 a21 a22).2.2.2 (ix1 0) = 1#1) :
    ∃ r : ℝ, a14 (ix1 0) = r := by
  revert h
  pointwise [fn]
  exact real_of_abs
end

variable [Cert.Pre_ranges.Facts] {m : (ℓ : Loc nD τ sig) → Buf (Elt Ideal) ℓ} (h : Cert.Pre_KernelIdeal_ranges m) (c : Dev nD)
include h

/-- Every logit is a real number. -/
theorem logits (n : ℕ) : ∃ r : ℝ, (kin m c).l n = r :=
  logit_real ((kin m c).R n) (kin m c).A (kin m c).wl (kin m c).bl
    (fun k j => pre_w0 _ _ _ _ _ _ _ _ _ _ _ _ _ _ _ _ _ _ _ _ _ _ _ k j (congrFun (h c).1 _))
    (fun j => pre_b _ _ _ _ _ _ _ _ _ _ _ _ _ _ _ _ _ _ _ _ _ _ _ j (congrFun (h c).2.1 _))
    (fun k => pre_wl _ _ _ _ _ _ _ _ _ _ _ _ _ _ _ _ _ _ _ _ _ _ _ k (congrFun (h c).2.2.1 _))
    (pre_bl _ _ _ _ _ _ _ _ _ _ _ _ _ _ _ _ _ _ _ _ _ _ _ (congrFun (h c).2.2.2 _))

end Cert.KernelIdeal.Gen
-- ==== Proof.RefHead.lean ====
/- The reference's weights, each graph's sums, and the three results. -/
module

public import proofs.«01_k».proof.Proof.RefRead

@[expose] public section

set_option maxRecDepth 16384

noncomputable section

namespace Cert.RefRead

open Idealize.ShloMosaic Idealize.ShloMosaic.TcCoe Idealize.SL.Sem Idealize.ShloMosaic.StableHlo
open Cert.ReferenceIdeal Cert.ReferenceIdeal.Gen Cert.ReferenceIdeal.Value Cert.Model Cert.NodeFold Cert.Spec

variable (V0 : Valuation τ sig (Elt Ideal))
variable (n : Fin 50000) (hb : arrI (S := S50000) (V0 (Proc.devRef .tc main_arg5)) (ix1 n) = BitVec.ofNat 32 ((inp V0).bat n).val) (g : Fin 512)

/-- The maxima with an empty graph's replaced by zero. -/
theorem pick (x : FVec Ideal S512x1 .f32) (h0 h1 : S_.BroadcastsInDim S512x1 (![] : Fin 0 → Fin 2)) :
    select (cmpf .olt (Host.absf x) (broadcastInDim S512x1 ![] h0 (constant S_ .f32 0x7F800000#32))) x (broadcastInDim S512x1 ![] h1 (id (constant (F := Ideal) S_ .f32 0x00000000#32 : FVec Ideal S_ .f32))) (ix2 g 0)
      = if max (x (ix2 g 0)) (-x (ix2 g 0)) < ⊤ then x (ix2 g 0) else 0 := by
  unfold id
  pointwise
  rw [show Ideal.ofBits FTy.f32 2139095040#32 = ⊤ from by simp [Ideal.ofBits, Ideal.ieee]]
  rfl

include hb in
theorem v155 : arr (S := S50000x1) (res_main_v155 V0) (ix2 n 0) = Ideal.exp ((inp V0).l n.val - (inp V0).m ((inp V0).bat n)) := by
  have h := logit V0 n hb
  have ht := top V0 ((inp V0).bat n)
  unfold arr at h ht ⊢
  unfold res_main_v155
  show Ideal.exp ((arr (S := S50000x1) (res_main_v133 V0) (ix2 n 0) : EReal) - (Host.gather _ _ _ (ix2 n 0) : EReal)) = _
  rw [show gather_S512x1_S50000x1_S50000x1_1_0_n_n_0_1_11 = ⟨[1], [0], [], [], [0], 1, ![1, 1], _⟩ from rfl]
  rw [take n _ _ _ _ (wrapped V0 n hb _ _), pick, ht]
  unfold Inp.m
  rw [← h]

theorem spread (hbc : S50000.BroadcastsInDim S50000x1 (![0] : Fin 1 → Fin 2)) (r : Fin 50000) :
    broadcastInDim S50000x1 ![0] hbc (V0 (Proc.devRef .tc main_arg5)) (ix2 r 0) = arrI (S := S50000) (V0 (Proc.devRef .tc main_arg5)) (ix1 r) := by
  clean_types
  pointwise

/-- A sum over the nodes that is one graph's. -/
theorem sum_hit (f : ℕ → EReal) : (∑ r : Fin 50000, if hit (inp V0).b g r.val then f r.val else 0)
    = ∑ n ∈ Finset.range 50000, if hit (inp V0).b g n then f n else 0 := by
  rw [Finset.sum_range]

include hb in
theorem v166_key : arr (S := S50000x1) (res_main_v166 V0) (ix2 n 0)
    = Ideal.div (Ideal.exp ((inp V0).l n.val - (inp V0).m ((inp V0).bat n))) ((inp V0).den ((inp V0).bat n)) := by
  have h := v155 V0
  have hs := spread V0
  unfold arr at h ⊢
  unfold res_main_v166
  clean_types
  pointwise
  rw [show gather_S512x1_S50000x1_S50000x1_1_0_n_n_0_1_11 = ⟨[1], [0], [], [], [0], 1, ![1, 1], _⟩ from rfl]
  rw [take n _ _ _ _ (wrapped V0 n hb _ _)]
  rw [show scatter_S512x1_S50000x1_S50000x1_1_0_0_1 = Scatter.rowDims 512 50000 1 _ from rfl]
  rw [Scatter.scatter_rows _ _ _ _ _ (by norm_num) (hs _)]
  clean_types
  pointwise
  rw [h n hb]
  refine congrArg (Ideal.div _) ?_
  unfold Inp.den
  rw [← sum_hit]
  refine Finset.sum_congr rfl fun r _ => ?_
  by_cases hh : hit (inp V0).b ((inp V0).bat n) r.val
  · rw [if_pos hh, if_pos ((hit_iff V0 r _).mp hh), h r (hit_key V0 hh), hit_bat V0 hh]
  · rw [if_neg hh, if_neg fun q => hh ((hit_iff V0 r _).mpr q)]
theorem v166 (hn : hit (inp V0).b g n.val) : arr (S := S50000x1) (res_main_v166 V0) (ix2 n 0)
    = Ideal.div (Ideal.exp ((inp V0).l n.val - (inp V0).m g)) ((inp V0).den g) := by
  rw [v166_key V0 n (hit_key V0 hn), hit_bat V0 hn]

/-- One graph's sum of one of the nodes' columns. -/
theorem total {B : ℕ} (wf) (x : FVec Ideal ⟨2, ![512, B]⟩ .f32) (idx : IVec ⟨2, ![50000, 1]⟩ 32) (upd : FVec Ideal ⟨2, ![50000, B]⟩ .f32) (k : Fin B) (j : Fin 484)
    (hi : ∀ r : Fin 50000, idx (ix2 r 0) = arrI (S := S50000) (V0 (Proc.devRef .tc main_arg5)) (ix1 r)) (hx : x (ix2 g k) = 0)
    (hu : ∀ n : Fin 50000, hit (inp V0).b g n.val → upd (ix2 n k) = Ideal.div (Ideal.exp ((inp V0).l n.val - (inp V0).m g)) ((inp V0).den g) * (inp V0).c j n.val) :
    Host.scatterAdd (Scatter.rowDims 512 50000 B wf) x idx upd (ix2 g k) = (inp V0).sum g j := by
  rw [Scatter.scatter_rows _ _ _ _ _ (by norm_num) hi, hx, zero_add]
  unfold Inp.sum
  rw [← sum_hit]
  refine Finset.sum_congr rfl fun r _ => ?_
  by_cases hh : hit (inp V0).b g r.val
  · rw [if_pos hh, if_pos ((hit_iff V0 r g).mp hh), hu r hh]
  · rw [if_neg hh, if_neg fun q => hh ((hit_iff V0 r g).mpr q)]

/-- A node's columns by their place. -/
theorem col0 (k : Fin 128) : (inp V0).c ⟨k.val, by omega⟩ n.val = (((inp V0).R n.val).norm.gate (inp V0).A).x0 k := by
  show Row.flat _ _ _ = _
  unfold Row.flat
  rw [dif_pos k.isLt]
theorem col1 (m : Fin 64) (d : Fin 3) : (inp V0).c ⟨128 + (64 * d.val + m.val), by omega⟩ n.val = (((inp V0).R n.val).norm.gate (inp V0).A).x1 m d := by
  show Row.flat _ _ _ = _
  unfold Row.flat
  rw [dif_neg (by simp only; omega), dif_pos (by simp only; omega)]
  congr 1 <;> refine Fin.ext ?_ <;> simp only <;> omega
theorem col2 (m : Fin 32) (d : Fin 5) : (inp V0).c ⟨320 + (32 * d.val + m.val), by omega⟩ n.val = (((inp V0).R n.val).norm.gate (inp V0).A).x2 m d := by
  show Row.flat _ _ _ = _
  unfold Row.flat
  rw [dif_neg (by simp only; omega), dif_neg (by simp only; omega), dif_pos (by simp only; omega)]
  congr 1 <;> refine Fin.ext ?_ <;> simp only <;> omega
theorem col3 (d : Fin 3) : (inp V0).c ⟨480 + d.val, by omega⟩ n.val = (inp V0).pos n d := by
  show Row.flat _ _ _ = _
  unfold Row.flat
  rw [dif_neg (by simp only; omega), dif_neg (by simp only; omega), dif_neg (by simp only; omega), dif_pos (by simp only; omega)]
  simp only [cast_n]
  congr 1
  refine Fin.ext ?_
  simp only
  omega

theorem zeros {S : Shape} (h : S_.BroadcastsInDim S (![] : Fin 0 → Fin S.rank)) (i) : broadcastInDim S ![] h (constant (F := Ideal) S_ .f32 0x00000000#32) i = 0 := by
  show Ideal.ofBits .f32 0x00000000#32 = 0
  simp [Ideal.ofBits, Ideal.ieee]

theorem sums (k : Fin 480) (j : Fin 484) (hk : ∀ n : Fin 50000, hit (inp V0).b g n.val → arr (S := S50000x480) (res_main_v126 V0) (ix2 n k) = (inp V0).c j n.val) :
    arr (S := S512x480) (res_main_v171 V0) (ix2 g k) = (inp V0).sum g j := by
  have h := fun n hn => v166 V0 n g hn
  unfold arr at h hk ⊢
  unfold res_main_v171
  rw [show scatter_S512x480_S50000x1_S50000x480_1_0_0_1 = Scatter.rowDims 512 50000 480 _ from rfl]
  refine total V0 g _ _ _ _ k j (spread V0 _) (zeros _ _) fun n hn => ?_
  clean_types
  pointwise
  rw [h n hn, hk n hn]

theorem G0 (k : Fin 128) : arr (S := S512x480) (res_main_v171 V0) (ix2 g ⟨k.val, by omega⟩) = ((inp V0).G g).x0 k := by
  unfold Inp.G; dsimp only
  exact sums V0 g _ _ fun n hn => (gate0 V0 n (hit_key V0 hn) k).trans (col0 V0 n k).symm
theorem G1 (m : Fin 64) (d : Fin 3) : arr (S := S512x480) (res_main_v171 V0) (ix2 g ⟨128 + (m.val * 3 + d.val), by omega⟩) = ((inp V0).G g).x1 m d := by
  unfold Inp.G; dsimp only
  exact sums V0 g _ _ fun n hn => (gate1 V0 n (hit_key V0 hn) m d).trans (col1 V0 n m d).symm
theorem G2 (m : Fin 32) (d : Fin 5) : arr (S := S512x480) (res_main_v171 V0) (ix2 g ⟨320 + (m.val * 5 + d.val), by omega⟩) = ((inp V0).G g).x2 m d := by
  unfold Inp.G; dsimp only
  exact sums V0 g _ _ fun n hn => (gate2 V0 n (hit_key V0 hn) m d).trans (col2 V0 n m d).symm

theorem away (d : Fin 3) : arr (S := S512x3) (res_main_v269 V0) (ix2 g d) = (inp V0).away g d := by
  have h := fun n hn => v166 V0 n g hn
  unfold arr at h ⊢
  unfold res_main_v269
  clean_types
  pointwise
  rw [show scatter_S512x3_S50000x1_S50000x3_1_0_0_1 = Scatter.rowDims 512 50000 3 _ from rfl]
  rw [total V0 g _ _ _ _ d ⟨480 + d.val, by omega⟩ (spread V0 _) (zeros _ _) fun n hn => ?_]
  · unfold Inp.away Inp.ctr; rfl
  · rw [col3]
    clean_types
    pointwise
    rw [h n hn]
    exact mul_comm _ _

/-! ## The second layer on each graph's row -/

theorem omid0 (j : Fin 224) : arr (S := S512x576) (res_main_v196 V0) (ix2 g ⟨j.val, by omega⟩) = ((inp V0).G g).o0 (inp V0).A' j := by
  have h := G0 V0 g
  unfold arr at h ⊢
  unfold res_main_v196
  clean_types
  pointwise
  simp only [h]
  refine congrArg (fun x => Ideal.div x q128 + _) (Finset.sum_congr rfl fun x _ => mul_comm _ _)
theorem omid1 (m : Fin 64) (d : Fin 3) : arr (S := S512x576) (res_main_v196 V0) (ix2 g ⟨224 + (m.val * 3 + d.val), by omega⟩) = ((inp V0).G g).o1 (inp V0).A' m d := by
  have h := G1 V0 g
  unfold arr at h ⊢
  unfold res_main_v196
  clean_types
  pointwise
  rw [dif_pos (by omega)]
  obtain ⟨e1, e2⟩ := q3 224 m.val d.val d.isLt
  simp only [e1, e2, h]
  refine congrArg (Ideal.div · q64) (Finset.sum_congr rfl fun x _ => mul_comm _ _)
theorem omid2 (m : Fin 32) (d : Fin 5) : arr (S := S512x576) (res_main_v196 V0) (ix2 g ⟨416 + (m.val * 5 + d.val), by omega⟩) = ((inp V0).G g).o2 (inp V0).A' m d := by
  have h := G2 V0 g
  unfold arr at h ⊢
  unfold res_main_v196
  clean_types
  pointwise
  rw [dif_neg (by omega), dif_neg (by omega)]
  obtain ⟨e1, e2⟩ := q5 416 m.val d.val d.isLt
  simp only [Nat.sub_sub, e1, e2, h]
  refine congrArg (Ideal.div · q32) (Finset.sum_congr rfl fun x _ => mul_comm _ _)

theorem ogate0 (k : Fin 128) : arr (S := S512x480) (res_main_v220 V0) (ix2 g ⟨k.val, by omega⟩) = (((inp V0).G g).gate (inp V0).A').x0 k := by
  have h := fun j : Fin 224 => omid0 V0 g j
  unfold arr at h ⊢
  unfold res_main_v220 res_main_v197
  clean_types
  pointwise
  rw [h ⟨k.val, by omega⟩]; rfl
theorem ogate1 (m : Fin 64) (d : Fin 3) : arr (S := S512x480) (res_main_v220 V0) (ix2 g ⟨128 + (m.val * 3 + d.val), by omega⟩)
    = (((inp V0).G g).gate (inp V0).A').x1 m d := by
  have h := omid1 V0 g m d
  have h' := omid0 V0 g ⟨128 + m.val, by omega⟩
  unfold arr at h h' ⊢
  unfold res_main_v220 res_main_v205
  clean_types
  pointwise
  rw [dif_pos (by omega)]
  exact congrArg₂ (fun a b => a * Ideal.div 1 (1 + Ideal.exp (-b))) h h'
theorem ogate2 (m : Fin 32) (d : Fin 5) : arr (S := S512x480) (res_main_v220 V0) (ix2 g ⟨320 + (m.val * 5 + d.val), by omega⟩)
    = (((inp V0).G g).gate (inp V0).A').x2 m d := by
  have h := omid2 V0 g m d
  have h' := omid0 V0 g ⟨192 + m.val, by omega⟩
  unfold arr at h h' ⊢
  unfold res_main_v220 res_main_v205
  clean_types
  pointwise
  rw [dif_neg (by omega), dif_neg (by omega)]
  have key : ∀ (i j : Fin 576), i.val = 416 + (m.val * 5 + d.val) → j.val = 192 + m.val →
      arr (S := S512x576) (res_main_v196 V0) (ix2 g i) * Ideal.div 1 (1 + Ideal.exp (-(arr (S := S512x576) (res_main_v196 V0) (ix2 g j))))
        = (((inp V0).G g).gate (inp V0).A').x2 m d := fun i j hi hj => by
    have e1 := congrArg (fun q : Fin 576 => arr (S := S512x576) (res_main_v196 V0) (ix2 g q)) (Fin.ext hi : i = ⟨416 + (m.val * 5 + d.val), by omega⟩)
    have e2 := congrArg (fun q : Fin 576 => arr (S := S512x576) (res_main_v196 V0) (ix2 g q)) (Fin.ext hj : j = ⟨192 + m.val, by omega⟩)
    exact congrArg₂ (fun a b => a * Ideal.div 1 (1 + Ideal.exp (-b))) (e1.trans h) (e2.trans h')
  refine key _ _ ?_ ?_
  · dsimp only; omega
  · dsimp only; omega

end Cert.RefRead

end
-- ==== Proof.RefOut.lean ====
/- The reference's three results as the plain functions of the arguments. -/
module

public import proofs.«01_k».proof.Proof.RefHead

@[expose] public section

set_option maxRecDepth 16384

noncomputable section

namespace Cert.RefRead

open Idealize.ShloMosaic Idealize.ShloMosaic.TcCoe Idealize.SL.Sem Idealize.ShloMosaic.StableHlo
open Cert.ReferenceIdeal Cert.ReferenceIdeal.Gen Cert.ReferenceIdeal.Value Cert.Model Cert.NodeFold Cert.Spec

variable (V0 : Valuation τ sig (Elt Ideal))
variable (n : Fin 50000) (g : Fin 512)

theorem head0 (c : Fin 16) : Ideal.div (∑ x : Fin 128, arr (S := S128x16) (V0 (Proc.devRef .tc main_arg19)) (ix2 x c) * arr (S := S512x480) (res_main_v220 V0) (ix2 g ⟨x.val, by omega⟩)) q128
    + arr (S := S16) (V0 (Proc.devRef .tc main_arg22)) (ix1 c) = (inp V0).head.p0 ((inp V0).G g) c := by
  simp only [ogate0 V0 g]
  refine congrArg (fun x => Ideal.div x q128 + _) (Finset.sum_congr rfl fun x _ => mul_comm _ _)
theorem head1 (c : Fin 16) (d : Fin 3) : Ideal.div (∑ x : Fin 64, arr (S := S64x16) (V0 (Proc.devRef .tc main_arg20)) (ix2 x c)
    * arr (S := S512x480) (res_main_v220 V0) (ix2 g ⟨128 + (x.val * 3 + d.val), by omega⟩)) q64 = (inp V0).head.p1 ((inp V0).G g) c d := by
  simp only [ogate1 V0 g]
  refine congrArg (Ideal.div · q64) (Finset.sum_congr rfl fun x _ => mul_comm _ _)
theorem head2 (c : Fin 16) (d : Fin 5) : Ideal.div (∑ x : Fin 32, arr (S := S32x16) (V0 (Proc.devRef .tc main_arg21)) (ix2 x c)
    * arr (S := S512x480) (res_main_v220 V0) (ix2 g ⟨320 + (x.val * 5 + d.val), by omega⟩)) q32 = (inp V0).head.p2 ((inp V0).G g) c d := by
  simp only [ogate2 V0 g]
  refine congrArg (Ideal.div · q32) (Finset.sum_congr rfl fun x _ => mul_comm _ _)

theorem grid (c : Fin 16) (p : Fin 1024) : arr (S := S512x16x1024) (res_main_v243 V0) (ix3 g c p) = (inp V0).head.grid ((inp V0).G g) c p := by
  have h0 := head0 V0 g c
  have h1 := head1 V0 g c
  have h2 := head2 V0 g c
  unfold arr at h0 h1 h2 ⊢
  unfold res_main_v243 res_main_v0
  clean_types
  pointwise
  unfold Head.grid
  refine Finset.sum_congr rfl fun k _ => ?_
  refine congrArg (· * (inp V0).Y k p) ?_
  match k with
  | ⟨0, _⟩ => exact h0
  | ⟨1, _⟩ => exact h1 0
  | ⟨2, _⟩ => exact h1 1
  | ⟨3, _⟩ => exact h1 2
  | ⟨4, _⟩ => exact h2 0
  | ⟨5, _⟩ => exact h2 1
  | ⟨6, _⟩ => exact h2 2
  | ⟨7, _⟩ => exact h2 3
  | ⟨8, _⟩ => exact h2 4

theorem pose (p : Fin 1024) : arr (S := S512x1024) (res_main_v252 V0) (ix2 g p) = (inp V0).head.pose ((inp V0).G g) p := by
  have h := grid V0 g
  unfold arr at h ⊢
  unfold res_main_v252
  clean_types
  pointwise
  rw [inf_bot]
  simp only [h, fold_sup]
  rfl

/-- A row's exponentials over their sum. -/
theorem soft_read (x : FVec Ideal S512x1024 .f32) (p : Fin 1024) (h0 : S512.BroadcastsInDim S512x1 (![0] : Fin 1 → Fin 2))
    (h1 : S512x1.BroadcastsInDim S512x1024 (![0, 1] : Fin 2 → Fin 2)) (e : FVec Ideal S512x1024 .f32)
    (he : ∀ p, e (ix2 g p) = Ideal.exp (x (ix2 g p) - max ⊥ (Finset.fold max ⊥ (fun q => x (ix2 g q)) Finset.univ))) :
    Host.divf e (broadcastInDim S512x1024 ![0, 1] h1 (broadcastInDim S512x1 ![0] h0
      (Host.reduceAdd e (constant S_ .f32 0x00000000#32) reducesTo_S512x1024_S512_d1 h_S_))) (ix2 g p) = soft (fun p => x (ix2 g p)) p := by
  pointwise
  simp only [he, fold_sup, bot_sup_eq]
  rfl

theorem dist (p : Fin 1024) : Host.divf (res_main_v259 V0) (broadcastInDim S512x1024 ![0, 1] bcast_S512x1_S512x1024_0_1 (broadcastInDim S512x1 ![0] bcast_S512_S512x1_0
    (Host.reduceAdd (res_main_v259 V0) (constant S_ .f32 0x00000000#32) reducesTo_S512x1024_S512_d1 h_S_))) (ix2 g p) = (inp V0).dist g p := by
  have h := pose V0 g
  unfold arr at h
  rw [soft_read g (res_main_v252 V0) p _ _ (res_main_v259 V0) (fun p => by unfold res_main_v259; clean_types; pointwise; rw [inf_bot])]
  exact congrArg (fun f => soft f p) (funext h)

theorem label (p : Fin 1024) : Host.divf (res_main_v329 V0) (broadcastInDim S512x1024 ![0, 1] bcast_S512x1_S512x1024_0_1 (broadcastInDim S512x1 ![0] bcast_S512_S512x1_0
    (Host.reduceAdd (res_main_v329 V0) (constant S_ .f32 0x00000000#32) reducesTo_S512x1024_S512_d1 h_S_))) (ix2 g p) = (inp V0).label g p := by
  have h := away V0 g
  unfold arr at h
  rw [soft_read g (res_main_v322 V0) p _ _ (res_main_v329 V0) (fun p => by unfold res_main_v329; clean_types; pointwise; rw [inf_bot])]
  refine congrArg (fun f => soft f p) (funext fun q => ?_)
  unfold res_main_v322 res_main_v0 res_main_v272 res_main_v274 res_main_v276
  clean_types
  pointwise
  refine congrArg (Ideal.div · temp) ?_
  refine Finset.sum_congr rfl fun k _ => ?_
  refine congrArg (· * (inp V0).Y k q) ?_
  simp only [h]
  fin_cases k <;> rfl

theorem length : Host.sqrt (broadcastInDim S512x1 ![0] bcast_S512_S512x1_0 (Host.reduceAdd (mulf (res_main_v269 V0) (res_main_v269 V0))
    (constant S_ .f32 0x00000000#32) reducesTo_S512x3_S512_d1 h_S_)) (ix2 g 0) = (inp V0).length g := by
  have h := away V0 g
  unfold arr at h
  clean_types
  pointwise
  simp only [h, Fin.sum_univ_three]
  rfl

end Cert.RefRead

end
-- ==== Proof.Values.lean ====
/- The kernel's three results are the reference's. -/
module
public import proofs.«01_k».proof.Proof.Results
public import proofs.«01_k».proof.Proof.Ranges
public import proofs.«01_k».proof.Proof.RefOut
public import proofs.«01_k».proof.Proof.Gen.Pre_ranges
@[expose] public section
set_option maxRecDepth 16384
noncomputable section
namespace Cert.KernelIdeal.Gen
open Idealize.ShloMosaic Idealize.ShloMosaic.TcCoe Idealize.ShloMosaic.StableHlo Idealize.SL.Sem Cert.Spec
open Cert.RefRead (arr arrI)

set_option maxHeartbeats 1000000 in
/-- Agreeing arguments are the same entries. -/
theorem same_inp (m : (ℓ : Loc nD τ sig) → Buf (Elt Ideal) ℓ) (m' : (ℓ : Loc Cert.ReferenceIdeal.nD Cert.ReferenceIdeal.τ Cert.ReferenceIdeal.sig) → Buf (Elt Ideal) ℓ)
    (c : Dev nD)
    (e0 : m' ((c : Thread Cert.ReferenceIdeal.nD Cert.ReferenceIdeal.τ).loc Cert.ReferenceIdeal.main_arg0) = m ((c : Thread nD τ).loc main_arg0))
    (e1 : m' ((c : Thread Cert.ReferenceIdeal.nD Cert.ReferenceIdeal.τ).loc Cert.ReferenceIdeal.main_arg1) = m ((c : Thread nD τ).loc main_arg1))
    (e2 : m' ((c : Thread Cert.ReferenceIdeal.nD Cert.ReferenceIdeal.τ).loc Cert.ReferenceIdeal.main_arg2) = m ((c : Thread nD τ).loc main_arg2))
    (e4 : m' ((c : Thread Cert.ReferenceIdeal.nD Cert.ReferenceIdeal.τ).loc Cert.ReferenceIdeal.main_arg4) = m ((c : Thread nD τ).loc main_arg4))
    (e5 : m' ((c : Thread Cert.ReferenceIdeal.nD Cert.ReferenceIdeal.τ).loc Cert.ReferenceIdeal.main_arg5) = m ((c : Thread nD τ).loc main_arg5))
    (e6 : m' ((c : Thread Cert.ReferenceIdeal.nD Cert.ReferenceIdeal.τ).loc Cert.ReferenceIdeal.main_arg6) = m ((c : Thread nD τ).loc main_arg6))
    (e7 : m' ((c : Thread Cert.ReferenceIdeal.nD Cert.ReferenceIdeal.τ).loc Cert.ReferenceIdeal.main_arg7) = m ((c : Thread nD τ).loc main_arg7))
    (e8 : m' ((c : Thread Cert.ReferenceIdeal.nD Cert.ReferenceIdeal.τ).loc Cert.ReferenceIdeal.main_arg8) = m ((c : Thread nD τ).loc main_arg8))
    (e9 : m' ((c : Thread Cert.ReferenceIdeal.nD Cert.ReferenceIdeal.τ).loc Cert.ReferenceIdeal.main_arg9) = m ((c : Thread nD τ).loc main_arg9))
    (e10 : m' ((c : Thread Cert.ReferenceIdeal.nD Cert.ReferenceIdeal.τ).loc Cert.ReferenceIdeal.main_arg10) = m ((c : Thread nD τ).loc main_arg10))
    (e11 : m' ((c : Thread Cert.ReferenceIdeal.nD Cert.ReferenceIdeal.τ).loc Cert.ReferenceIdeal.main_arg11) = m ((c : Thread nD τ).loc main_arg11))
    (e12 : m' ((c : Thread Cert.ReferenceIdeal.nD Cert.ReferenceIdeal.τ).loc Cert.ReferenceIdeal.main_arg12) = m ((c : Thread nD τ).loc main_arg12))
    (e13 : m' ((c : Thread Cert.ReferenceIdeal.nD Cert.ReferenceIdeal.τ).loc Cert.ReferenceIdeal.main_arg13) = m ((c : Thread nD τ).loc main_arg13))
    (e14 : m' ((c : Thread Cert.ReferenceIdeal.nD Cert.ReferenceIdeal.τ).loc Cert.ReferenceIdeal.main_arg14) = m ((c : Thread nD τ).loc main_arg14))
    (e15 : m' ((c : Thread Cert.ReferenceIdeal.nD Cert.ReferenceIdeal.τ).loc Cert.ReferenceIdeal.main_arg15) = m ((c : Thread nD τ).loc main_arg15))
    (e16 : m' ((c : Thread Cert.ReferenceIdeal.nD Cert.ReferenceIdeal.τ).loc Cert.ReferenceIdeal.main_arg16) = m ((c : Thread nD τ).loc main_arg16))
    (e17 : m' ((c : Thread Cert.ReferenceIdeal.nD Cert.ReferenceIdeal.τ).loc Cert.ReferenceIdeal.main_arg17) = m ((c : Thread nD τ).loc main_arg17))
    (e18 : m' ((c : Thread Cert.ReferenceIdeal.nD Cert.ReferenceIdeal.τ).loc Cert.ReferenceIdeal.main_arg18) = m ((c : Thread nD τ).loc main_arg18))
    (e19 : m' ((c : Thread Cert.ReferenceIdeal.nD Cert.ReferenceIdeal.τ).loc Cert.ReferenceIdeal.main_arg19) = m ((c : Thread nD τ).loc main_arg19))
    (e20 : m' ((c : Thread Cert.ReferenceIdeal.nD Cert.ReferenceIdeal.τ).loc Cert.ReferenceIdeal.main_arg20) = m ((c : Thread nD τ).loc main_arg20))
    (e21 : m' ((c : Thread Cert.ReferenceIdeal.nD Cert.ReferenceIdeal.τ).loc Cert.ReferenceIdeal.main_arg21) = m ((c : Thread nD τ).loc main_arg21))
    (e22 : m' ((c : Thread Cert.ReferenceIdeal.nD Cert.ReferenceIdeal.τ).loc Cert.ReferenceIdeal.main_arg22) = m ((c : Thread nD τ).loc main_arg22)) :
    Cert.RefRead.inp (launchContents m' c) = kin m c := by
  have f0 : launchContents m' c (Proc.devRef .tc Cert.ReferenceIdeal.main_arg0) = m ((c : Thread nD τ).loc main_arg0) := e0
  have f1 : launchContents m' c (Proc.devRef .tc Cert.ReferenceIdeal.main_arg1) = m ((c : Thread nD τ).loc main_arg1) := e1
  have f2 : launchContents m' c (Proc.devRef .tc Cert.ReferenceIdeal.main_arg2) = m ((c : Thread nD τ).loc main_arg2) := e2
  have f4 : launchContents m' c (Proc.devRef .tc Cert.ReferenceIdeal.main_arg4) = m ((c : Thread nD τ).loc main_arg4) := e4
  have f5 : launchContents m' c (Proc.devRef .tc Cert.ReferenceIdeal.main_arg5) = m ((c : Thread nD τ).loc main_arg5) := e5
  have f6 : launchContents m' c (Proc.devRef .tc Cert.ReferenceIdeal.main_arg6) = m ((c : Thread nD τ).loc main_arg6) := e6
  have f7 : launchContents m' c (Proc.devRef .tc Cert.ReferenceIdeal.main_arg7) = m ((c : Thread nD τ).loc main_arg7) := e7
  have f8 : launchContents m' c (Proc.devRef .tc Cert.ReferenceIdeal.main_arg8) = m ((c : Thread nD τ).loc main_arg8) := e8
  have f9 : launchContents m' c (Proc.devRef .tc Cert.ReferenceIdeal.main_arg9) = m ((c : Thread nD τ).loc main_arg9) := e9
  have f10 : launchContents m' c (Proc.devRef .tc Cert.ReferenceIdeal.main_arg10) = m ((c : Thread nD τ).loc main_arg10) := e10
  have f11 : launchContents m' c (Proc.devRef .tc Cert.ReferenceIdeal.main_arg11) = m ((c : Thread nD τ).loc main_arg11) := e11
  have f12 : launchContents m' c (Proc.devRef .tc Cert.ReferenceIdeal.main_arg12) = m ((c : Thread nD τ).loc main_arg12) := e12
  have f13 : launchContents m' c (Proc.devRef .tc Cert.ReferenceIdeal.main_arg13) = m ((c : Thread nD τ).loc main_arg13) := e13
  have f14 : launchContents m' c (Proc.devRef .tc Cert.ReferenceIdeal.main_arg14) = m ((c : Thread nD τ).loc main_arg14) := e14
  have f15 : launchContents m' c (Proc.devRef .tc Cert.ReferenceIdeal.main_arg15) = m ((c : Thread nD τ).loc main_arg15) := e15
  have f16 : launchContents m' c (Proc.devRef .tc Cert.ReferenceIdeal.main_arg16) = m ((c : Thread nD τ).loc main_arg16) := e16
  have f17 : launchContents m' c (Proc.devRef .tc Cert.ReferenceIdeal.main_arg17) = m ((c : Thread nD τ).loc main_arg17) := e17
  have f18 : launchContents m' c (Proc.devRef .tc Cert.ReferenceIdeal.main_arg18) = m ((c : Thread nD τ).loc main_arg18) := e18
  have f19 : launchContents m' c (Proc.devRef .tc Cert.ReferenceIdeal.main_arg19) = m ((c : Thread nD τ).loc main_arg19) := e19
  have f20 : launchContents m' c (Proc.devRef .tc Cert.ReferenceIdeal.main_arg20) = m ((c : Thread nD τ).loc main_arg20) := e20
  have f21 : launchContents m' c (Proc.devRef .tc Cert.ReferenceIdeal.main_arg21) = m ((c : Thread nD τ).loc main_arg21) := e21
  have f22 : launchContents m' c (Proc.devRef .tc Cert.ReferenceIdeal.main_arg22) = m ((c : Thread nD τ).loc main_arg22) := e22
  have hy : (fun (k : Fin 9) (p : Fin 1024) => Ideal.ofBits .f32 (Cert.ReferenceIdeal.lit0 (Cert.ReferenceIdeal.S9x1024.rowMajor (ix2 k p)))) =
      fun (k : Fin 9) (p : Fin 1024) => Ideal.ofBits .f32 (lit2 (S9x1024.rowMajor (ix2 k p))) :=
    funext fun k => funext fun p => congrArg (Ideal.ofBits .f32) (y_entry k p).symm
  unfold Cert.RefRead.inp kin argK
  rw [f0, f1, f2, f4, f5, f6, f7, f8, f9, f10, f11, f12, f13, f14, f15, f16, f17, f18, f19, f20, f21, f22]
  exact congrArg (Inp.mk _ _ _ _ _ _ _ _ _ _ _ _ _ _ _ _ _) hy

theorem values : @Cert.algebraic_KernelIdeal_ReferenceIdeal_pre_ranges Cert.KernelIdeal.Gen.facts Cert.ReferenceIdeal.Gen.facts Cert.Pre_ranges.Gen.facts := by
  intro m g m' g' hpre hA
  have hl := fun c => logits hpre c
  refine ⟨fun c => distA (kin m c), fun c => labelA (kin m c), fun c => lengthA (kin m c),
    (θ_run _ _ _).mono (fun r h c => ⟨?_, ?_, ?_, args_kept m g r.2.mem h.1 c⟩) (whole m g),
    (θ_run _ _ _).mono (fun r h c => ⟨(h c).1.trans ?_, (h c).2.1.trans ?_, (h c).2.2.1.trans ?_, (h c).2.2.2⟩) (Cert.ReferenceIdeal.Value.run m' g')⟩
  · exact (h.1 c _ (mem_uc main_v20_0 (by decide))).trans (w6_dist m g c (hl c))
  · exact (h.1 c _ (mem_uc main_v20_1 (by decide))).trans (w6_label m g c (hl c))
  · exact (h.1 c _ (mem_uc main_v20_2 (by decide))).trans (w6_len m g c (hl c))
  all_goals
    obtain ⟨e0, e1, e2, e3, e4, e5, e6, e7, e8, e9, e10, e11, e12, e13, e14, e15, e16, e17, e18, e19, e20, e21, e22⟩ := hA c
    have hi := same_inp m m' c e0 e1 e2 e4 e5 e6 e7 e8 e9 e10 e11 e12 e13 e14 e15 e16 e17 e18 e19 e20 e21 e22
  · refine funext fun i => ?_
    obtain ⟨a, p, rfl⟩ : ∃ (a : Fin 512) (p : Fin 1024), i = ix2 a p := ⟨i 0, i 1, (ix2_eta i).symm⟩
    exact (Cert.RefRead.dist (launchContents m' c) a p).trans (congrArg (fun I => Inp.dist I a p) hi)
  · refine funext fun i => ?_
    obtain ⟨a, p, rfl⟩ : ∃ (a : Fin 512) (p : Fin 1024), i = ix2 a p := ⟨i 0, i 1, (ix2_eta i).symm⟩
    exact (Cert.RefRead.label (launchContents m' c) a p).trans (congrArg (fun I => Inp.label I a p) hi)
  · refine funext fun i => ?_
    obtain ⟨a, p, rfl⟩ : ∃ (a : Fin 512) (p : Fin 1), i = ix2 a p := ⟨i 0, i 1, (ix2_eta i).symm⟩
    obtain rfl : p = 0 := Subsingleton.elim _ _
    exact (Cert.RefRead.length (launchContents m' c) a).trans (congrArg (fun I => Inp.length I a) hi)

end Cert.KernelIdeal.Gen
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ranges
public import proofs.«01_k».proof.Proof.Gen.ReferenceIdeal.Run
public import proofs.«01_k».proof.Proof.WholeRun
public import proofs.«01_k».proof.Proof.Bridge
public import proofs.«01_k».proof.Proof.Values

@[expose] public section

noncomputable section

namespace Cert.Proof

open Idealize.ShloMosaic Idealize.SL.Sem

/-- The frames, the ledger of the named constant, and the three results. -/
theorem claim : Cert.Claim := ⟨Cert.Kernel.Gen.facts, Cert.KernelIdeal.Gen.facts, Cert.ReferenceIdeal.Gen.facts, Cert.Pre_ranges.Gen.facts,
  fun m ρ _ => kernel_frame m ρ,
  fun m ρ _ => Cert.KernelIdeal.Gen.frame m ρ,
  fun m ρ _ => Cert.KernelIdeal.Gen.frame m ρ,
  fun m ρ _ => (θ_run _ _ _).mono (fun r h => ⟨fun c => (h c).2.2.2, sem_eq_zero_of_no_sems (by decide) r.2⟩) (Cert.ReferenceIdeal.Value.run m ρ),
  fun m ρ _ => (θ_run _ _ _).mono (fun r h => ⟨fun c => (h c).2.2.2, sem_eq_zero_of_no_sems (by decide) r.2⟩) (Cert.ReferenceIdeal.Value.run m ρ),
  IdealRules.named_const.statement Cert.KernelIdeal.κ "mask" .f32 0xF149F2CA#32 ⊥ rfl,
  Cert.KernelIdeal.Gen.values⟩

end Cert.Proof

end
